-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_labels_in_range [hPre_labels_in_range : Cert.Pre_labels_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_labels_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_labels_in_range [hPre_labels_in_range : Cert.Pre_labels_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_labels_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_labels_in_range [hKernelIdeal : Cert.KernelIdeal.Facts] [hPre_labels_in_range : Cert.Pre_labels_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_labels_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_labels_in_range [hReferenceIdeal : Cert.ReferenceIdeal.Facts] [hPre_labels_in_range : Cert.Pre_labels_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_labels_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "tenth" .f32 0x3DCCCCCD#32 ((1 / 10 : ℝ) : EReal)

def algebraic_KernelIdeal_ReferenceIdeal_pre_labels_in_range [hKernelIdeal : Cert.KernelIdeal.Facts] [hReferenceIdeal : Cert.ReferenceIdeal.Facts] [hPre_labels_in_range : Cert.Pre_labels_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_labels_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v38)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v38) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v264) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_labels_in_range : Cert.Pre_labels_in_range.Facts),
    quiescent_Kernel (hKernel := hKernel)
    ∧ quiescent_KernelIdeal (hKernelIdeal := hKernelIdeal)
    ∧ quiescent_KernelIdeal_pre_labels_in_range (hKernelIdeal := hKernelIdeal) (hPre_labels_in_range := hPre_labels_in_range)
    ∧ quiescent_ReferenceIdeal (hReferenceIdeal := hReferenceIdeal)
    ∧ quiescent_ReferenceIdeal_pre_labels_in_range (hReferenceIdeal := hReferenceIdeal) (hPre_labels_in_range := hPre_labels_in_range)
    ∧ preserves_Kernel_KernelIdeal
    ∧ algebraic_KernelIdeal_ReferenceIdeal_pre_labels_in_range (hKernelIdeal := hKernelIdeal) (hReferenceIdeal := hReferenceIdeal) (hPre_labels_in_range := hPre_labels_in_range)
-- ==== Pre_labels_in_range.lean ====
abbrev S64x8732x4 : Shape := ⟨3, ![64, 8732, 4]⟩
abbrev S64x8732x81 : Shape := ⟨3, ![64, 8732, 81]⟩
abbrev S64x16x4 : Shape := ⟨3, ![64, 16, 4]⟩
abbrev S64x16 : Shape := ⟨2, ![64, 16]⟩
abbrev S8732x4 : Shape := ⟨2, ![8732, 4]⟩
abbrev S_ : Shape := ⟨0, ![]⟩

class Facts : Prop where
  bcast_S_S64x16 : S_.BroadcastsInDim S64x16 (![] : Fin 0 → Fin S64x16.rank)

variable [Facts]

def fn {F : FTy → Type} [FloatOps F] (main_arg0 : FVec F S64x8732x4 .f32) (main_arg1 : FVec F S64x8732x81 .f32) (main_arg2 : FVec F S64x16x4 .f32) (main_arg3 : IVec S64x16 32) (main_arg4 : FVec F S8732x4 .f32) : IVec S64x16 1 :=
  let main_c : IVec S_ 32 := constantI S_ 32 1#32
  let main_v0 : IVec S64x16 32 := broadcastInDim S64x16 ![] bcast_S_S64x16 main_c
  let main_v1 : IVec S64x16 1 := cmpi .sge main_arg3 main_v0
  let main_c_0 : IVec S_ 32 := constantI S_ 32 81#32
  let main_v2 : IVec S64x16 32 := broadcastInDim S64x16 ![] bcast_S_S64x16 main_c_0
  let main_v3 : IVec S64x16 1 := cmpi .slt main_arg3 main_v2
  let main_v4 : IVec S64x16 1 := andi main_v1 main_v3
  main_v4
-- ==== Kernel.lean ====
abbrev S64x8732x4 : Shape := ⟨3, ![64, 8732, 4]⟩
abbrev S64x8732x81 : Shape := ⟨3, ![64, 8732, 81]⟩
abbrev S64x16x4 : Shape := ⟨3, ![64, 16, 4]⟩
abbrev S64x16 : Shape := ⟨2, ![64, 16]⟩
abbrev S8732x4 : Shape := ⟨2, ![8732, 4]⟩
abbrev S8732x2 : Shape := ⟨2, ![8732, 2]⟩
abbrev S_ : Shape := ⟨0, ![]⟩
abbrev S4x8732 : Shape := ⟨2, ![4, 8732]⟩
abbrev S64x4x8732 : Shape := ⟨3, ![64, 4, 8732]⟩
abbrev S64x16x1 : Shape := ⟨3, ![64, 16, 1]⟩
abbrev S64x1x8732 : Shape := ⟨3, ![64, 1, 8732]⟩
abbrev S64x1x1 : Shape := ⟨3, ![64, 1, 1]⟩
abbrev S1x16x4 : Shape := ⟨3, ![1, 16, 4]⟩
abbrev S1x16x1 : Shape := ⟨3, ![1, 16, 1]⟩
abbrev S1x4x8732 : Shape := ⟨3, ![1, 4, 8732]⟩
abbrev S1x1x8732 : Shape := ⟨3, ![1, 1, 8732]⟩
abbrev S1x1x1 : Shape := ⟨3, ![1, 1, 1]⟩
abbrev S16x4 : Shape := ⟨2, ![16, 4]⟩
abbrev S16x1 : Shape := ⟨2, ![16, 1]⟩
abbrev S1x8732 : Shape := ⟨2, ![1, 8732]⟩
abbrev S16x8732 : Shape := ⟨2, ![16, 8732]⟩
abbrev S8732 : Shape := ⟨1, ![8732]⟩
abbrev S16 : Shape := ⟨1, ![16]⟩
abbrev S1 : Shape := ⟨1, ![1]⟩
abbrev S1x1 : Shape := ⟨2, ![1, 1]⟩
abbrev S64x8732x1 : Shape := ⟨3, ![64, 8732, 1]⟩
abbrev S1x8732x81 : Shape := ⟨3, ![1, 8732, 81]⟩
abbrev S1x8732x1 : Shape := ⟨3, ![1, 8732, 1]⟩
abbrev S8732x81 : Shape := ⟨2, ![8732, 81]⟩
abbrev S8732x1 : Shape := ⟨2, ![8732, 1]⟩
abbrev S64x8732 : Shape := ⟨2, ![64, 8732]⟩
abbrev S64x1 : Shape := ⟨2, ![64, 1]⟩
abbrev S64 : Shape := ⟨1, ![64]⟩

abbrev nBuf : Space → Nat
  | .hbm => 61
  | .vmem => 25
  | .smem => 0
  | _ => 0

abbrev bufTy : (tb : Table) → Fin (tcTables nBuf tb) → BufTy
  | .hbm, ⟨0, _⟩ => ⟨S64x8732x4, .f32⟩
  | .hbm, ⟨1, _⟩ => ⟨S64x8732x81, .f32⟩
  | .hbm, ⟨2, _⟩ => ⟨S64x16x4, .f32⟩
  | .hbm, ⟨3, _⟩ => ⟨S64x16, .i32⟩
  | .hbm, ⟨4, _⟩ => ⟨S8732x4, .f32⟩
  | .hbm, ⟨5, _⟩ => ⟨S8732x2, .f32⟩
  | .hbm, ⟨6, _⟩ => ⟨S8732x2, .f32⟩
  | .hbm, ⟨7, _⟩ => ⟨S_, .f32⟩
  | .hbm, ⟨8, _⟩ => ⟨S8732x2, .f32⟩
  | .hbm, ⟨9, _⟩ => ⟨S8732x2, .f32⟩
  | .hbm, ⟨10, _⟩ => ⟨S8732x2, .f32⟩
  | .hbm, ⟨11, _⟩ => ⟨S8732x2, .f32⟩
  | .hbm, ⟨12, _⟩ => ⟨S8732x2, .f32⟩
  | .hbm, ⟨13, _⟩ => ⟨S_, .f32⟩
  | .hbm, ⟨14, _⟩ => ⟨S8732x2, .f32⟩
  | .hbm, ⟨15, _⟩ => ⟨S8732x2, .f32⟩
  | .hbm, ⟨16, _⟩ => ⟨S8732x2, .f32⟩
  | .hbm, ⟨17, _⟩ => ⟨S8732x4, .f32⟩
  | .hbm, ⟨18, _⟩ => ⟨S4x8732, .f32⟩
  | .hbm, ⟨19, _⟩ => ⟨S4x8732, .f32⟩
  | .hbm, ⟨20, _⟩ => ⟨S64x4x8732, .f32⟩
  | .hbm, ⟨21, _⟩ => ⟨S64x16x1, .i32⟩
  | .hbm, ⟨22, _⟩ => ⟨S64x1x8732, .i32⟩
  | .hbm, ⟨23, _⟩ => ⟨S64x1x1, .f32⟩
  | .hbm, ⟨24, _⟩ => ⟨S64x1x1, .i32⟩
  | .hbm, ⟨25, _⟩ => ⟨S64x8732x1, .i32⟩
  | .hbm, ⟨26, _⟩ => ⟨S64x1x1, .f32⟩
  | .hbm, ⟨27, _⟩ => ⟨S64x8732x1, .f32⟩
  | .hbm, ⟨28, _⟩ => ⟨S64x8732, .f32⟩
  | .hbm, ⟨29, _⟩ => ⟨S64x1, .i32⟩
  | .hbm, ⟨30, _⟩ => ⟨S64x1, .f32⟩
  | .hbm, ⟨31, _⟩ => ⟨S_, .i32⟩
  | .hbm, ⟨32, _⟩ => ⟨S_, .i32⟩
  | .hbm, ⟨33, _⟩ => ⟨S_, .i32⟩
  | .hbm, ⟨34, _⟩ => ⟨S_, .i32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .i32⟩
  | .hbm, ⟨39, _⟩ => ⟨S_, .i32⟩
  | .hbm, ⟨40, _⟩ => ⟨S_, .i32⟩
  | .hbm, ⟨41, _⟩ => ⟨S_, .i32⟩
  | .hbm, ⟨42, _⟩ => ⟨S_, .f32⟩
  | .hbm, ⟨43, _⟩ => ⟨S_, .f32⟩
  | .hbm, ⟨44, _⟩ => ⟨S_, .i1⟩
  | .hbm, ⟨45, _⟩ => ⟨S_, .f32⟩
  | .hbm, ⟨46, _⟩ => ⟨S_, .f32⟩
  | .hbm, ⟨47, _⟩ => ⟨S_, .i1⟩
  | .hbm, ⟨48, _⟩ => ⟨S_, .i1⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | .local _ .vmem, ⟨0, _⟩ => ⟨S1x16x4, .f32⟩
  | .local _ .vmem, ⟨1, _⟩ => ⟨S1x16x4, .f32⟩
  | .local _ .vmem, ⟨2, _⟩ => ⟨S1x16x1, .i32⟩
  | .local _ .vmem, ⟨3, _⟩ => ⟨S1x16x1, .i32⟩
  | .local _ .vmem, ⟨4, _⟩ => ⟨S4x8732, .f32⟩
  | .local _ .vmem, ⟨5, _⟩ => ⟨S4x8732, .f32⟩
  | .local _ .vmem, ⟨6, _⟩ => ⟨S1x4x8732, .f32⟩
  | .local _ .vmem, ⟨7, _⟩ => ⟨S1x4x8732, .f32⟩
  | .local _ .vmem, ⟨8, _⟩ => ⟨S1x1x8732, .i32⟩
  | .local _ .vmem, ⟨9, _⟩ => ⟨S1x1x8732, .i32⟩
  | .local _ .vmem, ⟨10, _⟩ => ⟨S1x1x1, .f32⟩
  | .local _ .vmem, ⟨11, _⟩ => ⟨S1x1x1, .f32⟩
  | .local _ .vmem, ⟨12, _⟩ => ⟨S1x1x1, .i32⟩
  | .local _ .vmem, ⟨13, _⟩ => ⟨S1x1x1, .i32⟩
  | .local _ .vmem, ⟨14, _⟩ => ⟨S1x8732x81, .f32⟩
  | .local _ .vmem, ⟨15, _⟩ => ⟨S1x8732x81, .f32⟩
  | .local _ .vmem, ⟨16, _⟩ => ⟨S1x8732x1, .i32⟩
  | .local _ .vmem, ⟨17, _⟩ => ⟨S1x8732x1, .i32⟩
  | .local _ .vmem, ⟨18, _⟩ => ⟨S1x1x1, .f32⟩
  | .local _ .vmem, ⟨19, _⟩ => ⟨S1x1x1, .f32⟩
  | .local _ .vmem, ⟨20, _⟩ => ⟨S1x8732x1, .f32⟩
  | .local _ .vmem, ⟨21, _⟩ => ⟨S1x8732x1, .f32⟩
  | .local _ .vmem, ⟨22, _⟩ => ⟨S64x8732, .f32⟩
  | .local _ .vmem, ⟨23, _⟩ => ⟨S64x1, .i32⟩
  | .local _ .vmem, ⟨24, _⟩ => ⟨S64x1, .f32⟩
  | _, _ => ⟨S64x8732x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15_0 : Ref sig .tc := ⟨.hbm, 22, rfl⟩
abbrev main_v15_1 : Ref sig .tc := ⟨.hbm, 23, rfl⟩
abbrev main_v15_2 : Ref sig .tc := ⟨.hbm, 24, rfl⟩
abbrev main_v16 : Ref sig .tc := ⟨.hbm, 25, rfl⟩
abbrev main_v17_0 : Ref sig .tc := ⟨.hbm, 26, rfl⟩
abbrev main_v17_1 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_c : Ref sig .tc := ⟨.hbm, 31, rfl⟩
abbrev main_v21 : Ref sig .tc := ⟨.hbm, 32, rfl⟩
abbrev main_c_1 : Ref sig .tc := ⟨.hbm, 33, rfl⟩
abbrev main_v22 : Ref sig .tc := ⟨.hbm, 34, rfl⟩
abbrev main_v23 : Ref sig .tc := ⟨.hbm, 35, rfl⟩
abbrev main_cst_2 : Ref sig .tc := ⟨.hbm, 36, rfl⟩
abbrev main_v24 : Ref sig .tc := ⟨.hbm, 37, rfl⟩
abbrev main_c_3 : Ref sig .tc := ⟨.hbm, 38, rfl⟩
abbrev main_v25 : Ref sig .tc := ⟨.hbm, 39, rfl⟩
abbrev main_c_4 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_call0_v0 : Ref sig .tc := ⟨.hbm, 45, rfl⟩
abbrev main_call0_cst : Ref sig .tc := ⟨.hbm, 46, rfl⟩
abbrev main_v30 : Ref sig .tc := ⟨.hbm, 47, rfl⟩
abbrev main_v31 : Ref sig .tc := ⟨.hbm, 48, rfl⟩
abbrev main_cst_5 : Ref sig .tc := ⟨.hbm, 49, rfl⟩
abbrev main_call1_v0 : Ref sig .tc := ⟨.hbm, 50, rfl⟩
abbrev main_v32 : Ref sig .tc := ⟨.hbm, 51, rfl⟩
abbrev main_cst_6 : Ref sig .tc := ⟨.hbm, 52, rfl⟩
abbrev main_v33 : Ref sig .tc := ⟨.hbm, 53, rfl⟩
abbrev main_cst_7 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_cst_8 : Ref sig .tc := ⟨.hbm, 58, rfl⟩
abbrev main_v37 : Ref sig .tc := ⟨.hbm, 59, rfl⟩
abbrev main_v38 : Ref sig .tc := ⟨.hbm, 60, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg3_1 : Ref sig .tc := ⟨.vmem, 21, rfl⟩
abbrev cc2_stg0_0 : Ref sig .tc := ⟨.vmem, 22, rfl⟩
abbrev cc2_stg1_0 : Ref sig .tc := ⟨.vmem, 23, rfl⟩
abbrev cc2_stg2_0 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem3_1 : DmaSem sig := 21
abbrev cc2_sem0_0 : DmaSem sig := 22
abbrev cc2_sem1_0 : DmaSem sig := 23
abbrev cc2_sem2_0 : DmaSem sig := 24

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x16x4 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x16x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x8732 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x8732 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x4x8732 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x8732 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1x1 .i32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![64], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x8732x81 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x8732x1 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x1x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x8732x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := .none

@[reducible] def k2_t1_loop : Scf.Loop 32 :=
  let c0_i32 : BitVec 32 := 0#32
  let c40_i32 : BitVec 32 := 40#32
  let v12 : BitVec 32 := Scalar.addi c0_i32 c40_i32
  let c1_i32 : BitVec 32 := 1#32
  ⟨c0_i32, v12, c1_i32⟩
abbrev stage2_0 : Fin 1 → Memref sig .tc .vmem S64x8732 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))

abbrev stage2_1 : Fin 1 → Memref sig .tc .vmem S64x1 .i32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))

abbrev stage2_2 : Fin 1 → Memref sig .tc .vmem S64x1 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
-- ==== KernelIdeal.lean ====
variable {F : FTy → Type} [FloatOps F] [Named F]
def κ : String → Option EReal := fun
  | "tenth" => some ((1 / 10 : ℝ) : EReal)
  | _ => none
-- ==== ReferenceIdeal.lean ====
abbrev S64x8732x4 : Shape := ⟨3, ![64, 8732, 4]⟩
abbrev S64x8732x81 : Shape := ⟨3, ![64, 8732, 81]⟩
abbrev S64x16x4 : Shape := ⟨3, ![64, 16, 4]⟩
abbrev S64x16 : Shape := ⟨2, ![64, 16]⟩
abbrev S8732x4 : Shape := ⟨2, ![8732, 4]⟩
abbrev S64 : Shape := ⟨1, ![64]⟩
abbrev S64x1 : Shape := ⟨2, ![64, 1]⟩
abbrev S8732 : Shape := ⟨1, ![8732]⟩
abbrev S1x8732 : Shape := ⟨2, ![1, 8732]⟩
abbrev S8732x2 : Shape := ⟨2, ![8732, 2]⟩
abbrev S_ : Shape := ⟨0, ![]⟩
abbrev S64x16x2 : Shape := ⟨3, ![64, 16, 2]⟩
abbrev S64x16x1x2 : Shape := ⟨4, ![64, 16, 1, 2]⟩
abbrev S1x1x8732x2 : Shape := ⟨4, ![1, 1, 8732, 2]⟩
abbrev S64x16x8732x2 : Shape := ⟨4, ![64, 16, 8732, 2]⟩
abbrev S64x16x8732x1 : Shape := ⟨4, ![64, 16, 8732, 1]⟩
abbrev S64x16x8732 : Shape := ⟨3, ![64, 16, 8732]⟩
abbrev S64x16x1 : Shape := ⟨3, ![64, 16, 1]⟩
abbrev S8732x1 : Shape := ⟨2, ![8732, 1]⟩
abbrev S1x1x8732 : Shape := ⟨3, ![1, 1, 8732]⟩
abbrev S64x8732 : Shape := ⟨2, ![64, 8732]⟩
abbrev S64x8732x16 : Shape := ⟨3, ![64, 8732, 16]⟩
abbrev S64x8732x1 : Shape := ⟨3, ![64, 8732, 1]⟩
abbrev S16 : Shape := ⟨1, ![16]⟩
abbrev S1x16 : Shape := ⟨2, ![1, 16]⟩
abbrev S64x8732x2 : Shape := ⟨3, ![64, 8732, 2]⟩
abbrev S1x8732x4 : Shape := ⟨3, ![1, 8732, 4]⟩
abbrev S1x8732x2 : Shape := ⟨3, ![1, 8732, 2]⟩
abbrev S64x8732x3 : Shape := ⟨3, ![64, 8732, 3]⟩

abbrev nBuf : Space → Nat
  | .hbm => 353
  | .vmem => 0
  | .smem => 0
  | _ => 0

abbrev hbmTy0_0 (i : Nat) : BufTy := match i % 128 with
  | 0 => ⟨S64x8732x4, .f32⟩
  | 1 => ⟨S64x8732x81, .f32⟩
  | 2 => ⟨S64x16x4, .f32⟩
  | 3 => ⟨S64x16, .i32⟩
  | 4 => ⟨S8732x4, .f32⟩
  | 5 => ⟨S64, .i32⟩
  | 6 => ⟨S64x1, .i32⟩
  | 7 => ⟨S8732, .i32⟩
  | 8 => ⟨S1x8732, .i32⟩
  | 9 => ⟨S8732x2, .f32⟩
  | 10 => ⟨S8732x2, .f32⟩
  | 11 => ⟨S_, .f32⟩
  | 12 => ⟨S8732x2, .f32⟩
  | 13 => ⟨S8732x2, .f32⟩
  | 14 => ⟨S8732x2, .f32⟩
  | 15 => ⟨S8732x2, .f32⟩
  | 16 => ⟨S8732x2, .f32⟩
  | 17 => ⟨S_, .f32⟩
  | 18 => ⟨S8732x2, .f32⟩
  | 19 => ⟨S8732x2, .f32⟩
  | 20 => ⟨S8732x2, .f32⟩
  | 21 => ⟨S8732x4, .f32⟩
  | 22 => ⟨S64x16x2, .f32⟩
  | 23 => ⟨S64x16x1x2, .f32⟩
  | 24 => ⟨S8732x2, .f32⟩
  | 25 => ⟨S1x1x8732x2, .f32⟩
  | 26 => ⟨S64x16x8732x2, .f32⟩
  | 27 => ⟨S64x16x8732x2, .f32⟩
  | 28 => ⟨S64x16x8732x2, .f32⟩
  | 29 => ⟨S64x16x2, .f32⟩
  | 30 => ⟨S64x16x1x2, .f32⟩
  | 31 => ⟨S8732x2, .f32⟩
  | 32 => ⟨S1x1x8732x2, .f32⟩
  | 33 => ⟨S64x16x8732x2, .f32⟩
  | 34 => ⟨S64x16x8732x2, .f32⟩
  | 35 => ⟨S64x16x8732x2, .f32⟩
  | 36 => ⟨S64x16x8732x2, .f32⟩
  | 37 => ⟨S_, .f32⟩
  | 38 => ⟨S_, .f32⟩
  | 39 => ⟨S64x16x8732x2, .f32⟩
  | 40 => ⟨S64x16x8732x2, .f32⟩
  | 41 => ⟨S64x16x8732x1, .f32⟩
  | 42 => ⟨S64x16x8732, .f32⟩
  | 43 => ⟨S64x16x8732x1, .f32⟩
  | 44 => ⟨S64x16x8732, .f32⟩
  | 45 => ⟨S64x16x8732, .f32⟩
  | 46 => ⟨S64x16x1, .f32⟩
  | 47 => ⟨S64x16, .f32⟩
  | 48 => ⟨S64x16x1, .f32⟩
  | 49 => ⟨S64x16, .f32⟩
  | 50 => ⟨S64x16, .f32⟩
  | 51 => ⟨S64x16x1, .f32⟩
  | 52 => ⟨S64x16, .f32⟩
  | 53 => ⟨S64x16x1, .f32⟩
  | 54 => ⟨S64x16, .f32⟩
  | 55 => ⟨S64x16, .f32⟩
  | 56 => ⟨S64x16, .f32⟩
  | 57 => ⟨S8732x1, .f32⟩
  | 58 => ⟨S8732, .f32⟩
  | 59 => ⟨S8732x1, .f32⟩
  | 60 => ⟨S8732, .f32⟩
  | 61 => ⟨S8732, .f32⟩
  | 62 => ⟨S8732x1, .f32⟩
  | 63 => ⟨S8732, .f32⟩
  | 64 => ⟨S8732x1, .f32⟩
  | 65 => ⟨S8732, .f32⟩
  | 66 => ⟨S8732, .f32⟩
  | 67 => ⟨S8732, .f32⟩
  | 68 => ⟨S64x16x1, .f32⟩
  | 69 => ⟨S1x1x8732, .f32⟩
  | 70 => ⟨S64x16x8732, .f32⟩
  | 71 => ⟨S64x16x8732, .f32⟩
  | 72 => ⟨S64x16x8732, .f32⟩
  | 73 => ⟨S64x16x8732, .f32⟩
  | 74 => ⟨S64x16x8732, .f32⟩
  | 75 => ⟨S_, .f32⟩
  | 76 => ⟨S64x8732, .f32⟩
  | 77 => ⟨S64x8732x16, .f32⟩
  | 78 => ⟨S64x8732x1, .f32⟩
  | 79 => ⟨S64x8732x1, .i32⟩
  | 80 => ⟨S64x8732, .i32⟩
  | 81 => ⟨S64x16x1, .f32⟩
  | 82 => ⟨S64x16x1, .i32⟩
  | 83 => ⟨S64x16, .i32⟩
  | 84 => ⟨S16, .i32⟩
  | 85 => ⟨S1x16, .i32⟩
  | 86 => ⟨S64x16, .i32⟩
  | 87 => ⟨S_, .i32⟩
  | 88 => ⟨S64x1, .i32⟩
  | 89 => ⟨S64x1, .i1⟩
  | 90 => ⟨S_, .i32⟩
  | 91 => ⟨S64x1, .i32⟩
  | 92 => ⟨S64x1, .i32⟩
  | 93 => ⟨S64x1, .i32⟩
  | 94 => ⟨S_, .i32⟩
  | 95 => ⟨S64x16, .i32⟩
  | 96 => ⟨S64x16, .i1⟩
  | 97 => ⟨S_, .i32⟩
  | 98 => ⟨S64x16, .i32⟩
  | 99 => ⟨S64x16, .i32⟩
  | 100 => ⟨S64x16, .i32⟩
  | 101 => ⟨S64x16, .i32⟩
  | 102 => ⟨S64x16x1, .i32⟩
  | 103 => ⟨S64x16x1, .i32⟩
  | 104 => ⟨S64x16x2, .i32⟩
  | 105 => ⟨S64x8732, .i32⟩
  | 106 => ⟨S_, .i32⟩
  | 107 => ⟨S64x1, .i32⟩
  | 108 => ⟨S64x1, .i1⟩
  | 109 => ⟨S_, .i32⟩
  | 110 => ⟨S64x1, .i32⟩
  | 111 => ⟨S64x1, .i32⟩
  | 112 => ⟨S64x1, .i32⟩
  | 113 => ⟨S_, .i32⟩
  | 114 => ⟨S64x16, .i32⟩
  | 115 => ⟨S64x16, .i1⟩
  | 116 => ⟨S_, .i32⟩
  | 117 => ⟨S64x16, .i32⟩
  | 118 => ⟨S64x16, .i32⟩
  | 119 => ⟨S64x16, .i32⟩
  | 120 => ⟨S64x16, .i32⟩
  | 121 => ⟨S64x16x1, .i32⟩
  | 122 => ⟨S64x16x1, .i32⟩
  | 123 => ⟨S64x16x2, .i32⟩
  | 124 => ⟨S_, .f32⟩
  | 125 => ⟨S64x16, .f32⟩
  | 126 => ⟨S64x8732, .f32⟩
  | 127 => ⟨S_, .i32⟩
  | _ => ⟨S64x8732x4, .f32⟩

abbrev hbmTy0_1 (i : Nat) : BufTy := match i % 128 with
  | 0 => ⟨S64x1, .i32⟩
  | 1 => ⟨S64x1, .i1⟩
  | 2 => ⟨S_, .i32⟩
  | 3 => ⟨S64x1, .i32⟩
  | 4 => ⟨S64x1, .i32⟩
  | 5 => ⟨S64x1, .i32⟩
  | 6 => ⟨S_, .i32⟩
  | 7 => ⟨S64x8732, .i32⟩
  | 8 => ⟨S64x8732, .i1⟩
  | 9 => ⟨S_, .i32⟩
  | 10 => ⟨S64x8732, .i32⟩
  | 11 => ⟨S64x8732, .i32⟩
  | 12 => ⟨S64x8732, .i32⟩
  | 13 => ⟨S64x8732, .i32⟩
  | 14 => ⟨S64x8732x1, .i32⟩
  | 15 => ⟨S64x8732x1, .i32⟩
  | 16 => ⟨S64x8732x2, .i32⟩
  | 17 => ⟨S64x8732, .i32⟩
  | 18 => ⟨S_, .f32⟩
  | 19 => ⟨S64x8732, .f32⟩
  | 20 => ⟨S64x8732, .i1⟩
  | 21 => ⟨S_, .i32⟩
  | 22 => ⟨S_, .i32⟩
  | 23 => ⟨S64x8732, .i32⟩
  | 24 => ⟨S64x8732, .i32⟩
  | 25 => ⟨S_, .i32⟩
  | 26 => ⟨S64x1, .i32⟩
  | 27 => ⟨S64x1, .i1⟩
  | 28 => ⟨S_, .i32⟩
  | 29 => ⟨S64x1, .i32⟩
  | 30 => ⟨S64x1, .i32⟩
  | 31 => ⟨S64x1, .i32⟩
  | 32 => ⟨S_, .i32⟩
  | 33 => ⟨S64x8732, .i32⟩
  | 34 => ⟨S64x8732, .i1⟩
  | 35 => ⟨S_, .i32⟩
  | 36 => ⟨S64x8732, .i32⟩
  | 37 => ⟨S64x8732, .i32⟩
  | 38 => ⟨S64x8732, .i32⟩
  | 39 => ⟨S64x8732, .i32⟩
  | 40 => ⟨S64x8732x1, .i32⟩
  | 41 => ⟨S64x8732x1, .i32⟩
  | 42 => ⟨S64x8732x2, .i32⟩
  | 43 => ⟨S64x8732x4, .f32⟩
  | 44 => ⟨S64x8732x2, .f32⟩
  | 45 => ⟨S64x8732x2, .f32⟩
  | 46 => ⟨S64x8732x2, .f32⟩
  | 47 => ⟨S_, .f32⟩
  | 48 => ⟨S64x8732x2, .f32⟩
  | 49 => ⟨S64x8732x2, .f32⟩
  | 50 => ⟨S64x8732x2, .f32⟩
  | 51 => ⟨S64x8732x2, .f32⟩
  | 52 => ⟨S64x8732x2, .f32⟩
  | 53 => ⟨S64x8732x4, .f32⟩
  | 54 => ⟨S1x8732x4, .f32⟩
  | 55 => ⟨S64x8732x2, .f32⟩
  | 56 => ⟨S1x8732x2, .f32⟩
  | 57 => ⟨S64x8732x2, .f32⟩
  | 58 => ⟨S64x8732x2, .f32⟩
  | 59 => ⟨S1x8732x2, .f32⟩
  | 60 => ⟨S_, .f32⟩
  | 61 => ⟨S1x8732x2, .f32⟩
  | 62 => ⟨S1x8732x2, .f32⟩
  | 63 => ⟨S64x8732x2, .f32⟩
  | 64 => ⟨S64x8732x2, .f32⟩
  | 65 => ⟨S64x8732x2, .f32⟩
  | 66 => ⟨S1x8732x2, .f32⟩
  | 67 => ⟨S64x8732x2, .f32⟩
  | 68 => ⟨S64x8732x2, .f32⟩
  | 69 => ⟨S64x8732x2, .f32⟩
  | 70 => ⟨S_, .f32⟩
  | 71 => ⟨S64x8732x2, .f32⟩
  | 72 => ⟨S64x8732x2, .f32⟩
  | 73 => ⟨S64x8732x4, .f32⟩
  | 74 => ⟨S_, .i32⟩
  | 75 => ⟨S64x8732, .i32⟩
  | 76 => ⟨S64x8732, .i1⟩
  | 77 => ⟨S64x8732, .i32⟩
  | 78 => ⟨S_, .i32⟩
  | 79 => ⟨S_, .i32⟩
  | 80 => ⟨S64x8732x4, .f32⟩
  | 81 => ⟨S64x8732x4, .f32⟩
  | 82 => ⟨S64x8732x1, .i1⟩
  | 83 => ⟨S64x8732x1, .f32⟩
  | 84 => ⟨S64x8732x4, .f32⟩
  | 85 => ⟨S64x8732x4, .f32⟩
  | 86 => ⟨S_, .f32⟩
  | 87 => ⟨S_, .f32⟩
  | 88 => ⟨S_, .i32⟩
  | 89 => ⟨S_, .i32⟩
  | 90 => ⟨S_, .i32⟩
  | 91 => ⟨S_, .i32⟩
  | 92 => ⟨S_, .f32⟩
  | 93 => ⟨S_, .f32⟩
  | 94 => ⟨S_, .i1⟩
  | 95 => ⟨S_, .f32⟩
  | 96 => ⟨S_, .f32⟩
  | 97 => ⟨S_, .i1⟩
  | 98 => ⟨S_, .i1⟩
  | 99 => ⟨S_, .f32⟩
  | 100 => ⟨S_, .f32⟩
  | 101 => ⟨S_, .f32⟩
  | 102 => ⟨S_, .f32⟩
  | 103 => ⟨S64x8732, .f32⟩
  | 104 => ⟨S64x8732, .f32⟩
  | 105 => ⟨S_, .f32⟩
  | 106 => ⟨S64x8732, .f32⟩
  | 107 => ⟨S64x8732, .i1⟩
  | 108 => ⟨S_, .f32⟩
  | 109 => ⟨S_, .f32⟩
  | 110 => ⟨S64x8732, .f32⟩
  | 111 => ⟨S64x8732, .f32⟩
  | 112 => ⟨S64x8732x1, .f32⟩
  | 113 => ⟨S64x8732x81, .f32⟩
  | 114 => ⟨S64x8732x81, .f32⟩
  | 115 => ⟨S64x8732x81, .f32⟩
  | 116 => ⟨S_, .f32⟩
  | 117 => ⟨S64x8732, .f32⟩
  | 118 => ⟨S64x8732, .f32⟩
  | 119 => ⟨S64x8732, .f32⟩
  | 120 => ⟨S_, .i32⟩
  | 121 => ⟨S64x1, .i32⟩
  | 122 => ⟨S64x1, .i1⟩
  | 123 => ⟨S_, .i32⟩
  | 124 => ⟨S64x1, .i32⟩
  | 125 => ⟨S64x1, .i32⟩
  | 126 => ⟨S64x1, .i32⟩
  | 127 => ⟨S_, .i32⟩
  | _ => ⟨S64x8732x4, .f32⟩

abbrev hbmTy0_2 (i : Nat) : BufTy := match i % 128 with
  | 0 => ⟨S1x8732, .i32⟩
  | 1 => ⟨S1x8732, .i1⟩
  | 2 => ⟨S_, .i32⟩
  | 3 => ⟨S1x8732, .i32⟩
  | 4 => ⟨S1x8732, .i32⟩
  | 5 => ⟨S1x8732, .i32⟩
  | 6 => ⟨S_, .i32⟩
  | 7 => ⟨S64x8732, .i32⟩
  | 8 => ⟨S64x8732, .i1⟩
  | 9 => ⟨S_, .i32⟩
  | 10 => ⟨S64x8732, .i32⟩
  | 11 => ⟨S64x8732, .i32⟩
  | 12 => ⟨S64x8732, .i32⟩
  | 13 => ⟨S64x8732, .i32⟩
  | 14 => ⟨S64x8732, .i32⟩
  | 15 => ⟨S64x8732x1, .i32⟩
  | 16 => ⟨S64x8732x1, .i32⟩
  | 17 => ⟨S64x8732x1, .i32⟩
  | 18 => ⟨S64x8732x3, .i32⟩
  | 19 => ⟨S64x8732, .f32⟩
  | 20 => ⟨S64x8732, .f32⟩
  | 21 => ⟨S64x8732, .i1⟩
  | 22 => ⟨S64x8732, .f32⟩
  | 23 => ⟨S_, .f32⟩
  | 24 => ⟨S64x8732, .f32⟩
  | 25 => ⟨S64x8732, .i1⟩
  | 26 => ⟨S64x8732, .i1⟩
  | 27 => ⟨S_, .f32⟩
  | 28 => ⟨S_, .f32⟩
  | 29 => ⟨S64x8732, .f32⟩
  | 30 => ⟨S64x8732, .f32⟩
  | 31 => ⟨S64x8732, .i32⟩
  | 32 => ⟨S_, .i32⟩
  | 33 => ⟨S64, .i32⟩
  | 34 => ⟨S_, .i32⟩
  | 35 => ⟨S64, .i32⟩
  | 36 => ⟨S64, .i32⟩
  | 37 => ⟨S64x8732, .f32⟩
  | 38 => ⟨S64x8732, .f32⟩
  | 39 => ⟨S_, .f32⟩
  | 40 => ⟨S_, .f32⟩
  | 41 => ⟨S_, .f32⟩
  | 42 => ⟨S_, .f32⟩
  | 43 => ⟨S64x8732, .f32⟩
  | 44 => ⟨S64x8732, .f32⟩
  | 45 => ⟨S64x8732, .f32⟩
  | 46 => ⟨S64x8732, .f32⟩
  | 47 => ⟨S64x8732, .f32⟩
  | 48 => ⟨S8732, .i32⟩
  | 49 => ⟨S1x8732, .i32⟩
  | 50 => ⟨S64x1, .i32⟩
  | 51 => ⟨S64x8732, .i32⟩
  | 52 => ⟨S64x8732, .i32⟩
  | 53 => ⟨S64x8732, .i1⟩
  | 54 => ⟨S_, .f32⟩
  | 55 => ⟨S_, .f32⟩
  | 56 => ⟨S64x8732, .f32⟩
  | 57 => ⟨S64x8732, .f32⟩
  | 58 => ⟨S_, .f32⟩
  | 59 => ⟨S64, .f32⟩
  | 60 => ⟨S64x1, .f32⟩
  | 61 => ⟨S_, .f32⟩
  | 62 => ⟨S64, .f32⟩
  | 63 => ⟨S64x1, .f32⟩
  | 64 => ⟨S_, .f32⟩
  | 65 => ⟨S64x1, .f32⟩
  | 66 => ⟨S64x1, .f32⟩
  | 67 => ⟨S_, .f32⟩
  | 68 => ⟨S64x1, .f32⟩
  | 69 => ⟨S64x1, .f32⟩
  | 70 => ⟨S_, .f32⟩
  | 71 => ⟨S64x1, .f32⟩
  | 72 => ⟨S64x1, .f32⟩
  | 73 => ⟨S64x1, .f32⟩
  | 74 => ⟨S64x1, .f32⟩
  | 75 => ⟨S64x1, .f32⟩
  | 76 => ⟨S_, .f32⟩
  | 77 => ⟨S64x1, .f32⟩
  | 78 => ⟨S64x1, .f32⟩
  | 79 => ⟨S64x8732, .f32⟩
  | 80 => ⟨S64x8732, .f32⟩
  | 81 => ⟨S_, .f32⟩
  | 82 => ⟨S_, .f32⟩
  | 83 => ⟨S64x8732, .f32⟩
  | 84 => ⟨S64x8732, .f32⟩
  | 85 => ⟨S_, .f32⟩
  | 86 => ⟨S_, .f32⟩
  | 87 => ⟨S_, .f32⟩
  | 88 => ⟨S_, .i32⟩
  | 89 => ⟨S_, .i32⟩
  | 90 => ⟨S_, .i32⟩
  | 91 => ⟨S_, .i32⟩
  | 92 => ⟨S_, .f32⟩
  | 93 => ⟨S_, .f32⟩
  | 94 => ⟨S_, .f32⟩
  | 95 => ⟨S_, .f32⟩
  | 96 => ⟨S_, .f32⟩
  | _ => ⟨S64x8732x4, .f32⟩

abbrev hbmTy (i : Nat) : BufTy := match i / 128 with
  | 0 => hbmTy0_0 i
  | 1 => hbmTy0_1 i
  | 2 => hbmTy0_2 i
  | _ => ⟨S64x8732x4, .f32⟩

abbrev bufTy : (tb : Table) → Fin (tcTables nBuf tb) → BufTy
  | .hbm, ⟨i, _⟩ => hbmTy i
  | _, _ => ⟨S64x8732x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_cst_1 : Ref sig .tc := ⟨.hbm, 37, rfl⟩
abbrev main_call0_v0 : Ref sig .tc := ⟨.hbm, 38, rfl⟩
abbrev main_call0_v1 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_cst_2 : Ref sig .tc := ⟨.hbm, 75, rfl⟩
abbrev main_v65 : Ref sig .tc := ⟨.hbm, 76, rfl⟩
abbrev main_v66 : Ref sig .tc := ⟨.hbm, 77, rfl⟩
abbrev main_values : Ref sig .tc := ⟨.hbm, 78, rfl⟩
abbrev main_indices : Ref sig .tc := ⟨.hbm, 79, rfl⟩
abbrev main_v67 : Ref sig .tc := ⟨.hbm, 80, rfl⟩
abbrev main_values_3 : Ref sig .tc := ⟨.hbm, 81, rfl⟩
abbrev main_indices_4 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_c : Ref sig .tc := ⟨.hbm, 87, rfl⟩
abbrev main_v72 : Ref sig .tc := ⟨.hbm, 88, rfl⟩
abbrev main_v73 : Ref sig .tc := ⟨.hbm, 89, rfl⟩
abbrev main_c_5 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_c_6 : Ref sig .tc := ⟨.hbm, 94, rfl⟩
abbrev main_v77 : Ref sig .tc := ⟨.hbm, 95, rfl⟩
abbrev main_v78 : Ref sig .tc := ⟨.hbm, 96, rfl⟩
abbrev main_c_7 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_c_8 : Ref sig .tc := ⟨.hbm, 106, rfl⟩
abbrev main_v87 : Ref sig .tc := ⟨.hbm, 107, rfl⟩
abbrev main_v88 : Ref sig .tc := ⟨.hbm, 108, rfl⟩
abbrev main_c_9 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_c_10 : Ref sig .tc := ⟨.hbm, 113, rfl⟩
abbrev main_v92 : Ref sig .tc := ⟨.hbm, 114, rfl⟩
abbrev main_v93 : Ref sig .tc := ⟨.hbm, 115, rfl⟩
abbrev main_c_11 : Ref sig .tc := ⟨.hbm, 116, rfl⟩
abbrev main_v94 : Ref sig .tc := ⟨.hbm, 117, rfl⟩
abbrev main_v95 : Ref sig .tc := ⟨.hbm, 118, rfl⟩
abbrev main_v96 : Ref sig .tc := ⟨.hbm, 119, rfl⟩
abbrev main_v97 : Ref sig .tc := ⟨.hbm, 120, rfl⟩
abbrev main_v98 : Ref sig .tc := ⟨.hbm, 121, rfl⟩
abbrev main_v99 : Ref sig .tc := ⟨.hbm, 122, rfl⟩
abbrev main_v100 : Ref sig .tc := ⟨.hbm, 123, rfl⟩
abbrev main_cst_12 : Ref sig .tc := ⟨.hbm, 124, rfl⟩
abbrev main_v101 : Ref sig .tc := ⟨.hbm, 125, rfl⟩
abbrev main_v102 : Ref sig .tc := ⟨.hbm, 126, rfl⟩
abbrev main_c_13 : Ref sig .tc := ⟨.hbm, 127, rfl⟩
abbrev main_v103 : Ref sig .tc := ⟨.hbm, 128, rfl⟩
abbrev main_v104 : Ref sig .tc := ⟨.hbm, 129, rfl⟩
abbrev main_c_14 : Ref sig .tc := ⟨.hbm, 130, rfl⟩
abbrev main_v105 : Ref sig .tc := ⟨.hbm, 131, rfl⟩
abbrev main_v106 : Ref sig .tc := ⟨.hbm, 132, rfl⟩
abbrev main_v107 : Ref sig .tc := ⟨.hbm, 133, rfl⟩
abbrev main_c_15 : Ref sig .tc := ⟨.hbm, 134, rfl⟩
abbrev main_v108 : Ref sig .tc := ⟨.hbm, 135, rfl⟩
abbrev main_v109 : Ref sig .tc := ⟨.hbm, 136, rfl⟩
abbrev main_c_16 : Ref sig .tc := ⟨.hbm, 137, rfl⟩
abbrev main_v110 : Ref sig .tc := ⟨.hbm, 138, rfl⟩
abbrev main_v111 : Ref sig .tc := ⟨.hbm, 139, rfl⟩
abbrev main_v112 : Ref sig .tc := ⟨.hbm, 140, rfl⟩
abbrev main_v113 : Ref sig .tc := ⟨.hbm, 141, rfl⟩
abbrev main_v114 : Ref sig .tc := ⟨.hbm, 142, rfl⟩
abbrev main_v115 : Ref sig .tc := ⟨.hbm, 143, rfl⟩
abbrev main_v116 : Ref sig .tc := ⟨.hbm, 144, rfl⟩
abbrev main_v117 : Ref sig .tc := ⟨.hbm, 145, rfl⟩
abbrev main_cst_17 : Ref sig .tc := ⟨.hbm, 146, rfl⟩
abbrev main_v118 : Ref sig .tc := ⟨.hbm, 147, rfl⟩
abbrev main_v119 : Ref sig .tc := ⟨.hbm, 148, rfl⟩
abbrev main_c_18 : Ref sig .tc := ⟨.hbm, 149, rfl⟩
abbrev main_call1_v0 : Ref sig .tc := ⟨.hbm, 150, rfl⟩
abbrev main_call1_v1 : Ref sig .tc := ⟨.hbm, 151, rfl⟩
abbrev main_v120 : Ref sig .tc := ⟨.hbm, 152, rfl⟩
abbrev main_c_19 : Ref sig .tc := ⟨.hbm, 153, rfl⟩
abbrev main_v121 : Ref sig .tc := ⟨.hbm, 154, rfl⟩
abbrev main_v122 : Ref sig .tc := ⟨.hbm, 155, rfl⟩
abbrev main_c_20 : Ref sig .tc := ⟨.hbm, 156, rfl⟩
abbrev main_v123 : Ref sig .tc := ⟨.hbm, 157, rfl⟩
abbrev main_v124 : Ref sig .tc := ⟨.hbm, 158, rfl⟩
abbrev main_v125 : Ref sig .tc := ⟨.hbm, 159, rfl⟩
abbrev main_c_21 : Ref sig .tc := ⟨.hbm, 160, rfl⟩
abbrev main_v126 : Ref sig .tc := ⟨.hbm, 161, rfl⟩
abbrev main_v127 : Ref sig .tc := ⟨.hbm, 162, rfl⟩
abbrev main_c_22 : Ref sig .tc := ⟨.hbm, 163, rfl⟩
abbrev main_v128 : Ref sig .tc := ⟨.hbm, 164, rfl⟩
abbrev main_v129 : Ref sig .tc := ⟨.hbm, 165, rfl⟩
abbrev main_v130 : Ref sig .tc := ⟨.hbm, 166, rfl⟩
abbrev main_v131 : Ref sig .tc := ⟨.hbm, 167, rfl⟩
abbrev main_v132 : Ref sig .tc := ⟨.hbm, 168, rfl⟩
abbrev main_v133 : Ref sig .tc := ⟨.hbm, 169, rfl⟩
abbrev main_v134 : Ref sig .tc := ⟨.hbm, 170, rfl⟩
abbrev main_v135 : Ref sig .tc := ⟨.hbm, 171, rfl⟩
abbrev main_v136 : Ref sig .tc := ⟨.hbm, 172, rfl⟩
abbrev main_v137 : Ref sig .tc := ⟨.hbm, 173, rfl⟩
abbrev main_v138 : Ref sig .tc := ⟨.hbm, 174, rfl⟩
abbrev main_cst_23 : Ref sig .tc := ⟨.hbm, 175, rfl⟩
abbrev main_v139 : Ref sig .tc := ⟨.hbm, 176, rfl⟩
abbrev main_v140 : Ref sig .tc := ⟨.hbm, 177, rfl⟩
abbrev main_v141 : Ref sig .tc := ⟨.hbm, 178, rfl⟩
abbrev main_v142 : Ref sig .tc := ⟨.hbm, 179, rfl⟩
abbrev main_v143 : Ref sig .tc := ⟨.hbm, 180, rfl⟩
abbrev main_v144 : Ref sig .tc := ⟨.hbm, 181, rfl⟩
abbrev main_v145 : Ref sig .tc := ⟨.hbm, 182, rfl⟩
abbrev main_v146 : Ref sig .tc := ⟨.hbm, 183, rfl⟩
abbrev main_v147 : Ref sig .tc := ⟨.hbm, 184, rfl⟩
abbrev main_v148 : Ref sig .tc := ⟨.hbm, 185, rfl⟩
abbrev main_v149 : Ref sig .tc := ⟨.hbm, 186, rfl⟩
abbrev main_v150 : Ref sig .tc := ⟨.hbm, 187, rfl⟩
abbrev main_cst_24 : Ref sig .tc := ⟨.hbm, 188, rfl⟩
abbrev main_v151 : Ref sig .tc := ⟨.hbm, 189, rfl⟩
abbrev main_v152 : Ref sig .tc := ⟨.hbm, 190, rfl⟩
abbrev main_v153 : Ref sig .tc := ⟨.hbm, 191, rfl⟩
abbrev main_v154 : Ref sig .tc := ⟨.hbm, 192, rfl⟩
abbrev main_v155 : Ref sig .tc := ⟨.hbm, 193, rfl⟩
abbrev main_v156 : Ref sig .tc := ⟨.hbm, 194, rfl⟩
abbrev main_v157 : Ref sig .tc := ⟨.hbm, 195, rfl⟩
abbrev main_v158 : Ref sig .tc := ⟨.hbm, 196, rfl⟩
abbrev main_v159 : Ref sig .tc := ⟨.hbm, 197, rfl⟩
abbrev main_cst_25 : Ref sig .tc := ⟨.hbm, 198, rfl⟩
abbrev main_v160 : Ref sig .tc := ⟨.hbm, 199, rfl⟩
abbrev main_v161 : Ref sig .tc := ⟨.hbm, 200, rfl⟩
abbrev main_v162 : Ref sig .tc := ⟨.hbm, 201, rfl⟩
abbrev main_c_26 : Ref sig .tc := ⟨.hbm, 202, rfl⟩
abbrev main_v163 : Ref sig .tc := ⟨.hbm, 203, rfl⟩
abbrev main_v164 : Ref sig .tc := ⟨.hbm, 204, rfl⟩
abbrev main_v165 : Ref sig .tc := ⟨.hbm, 205, rfl⟩
abbrev main_c_27 : Ref sig .tc := ⟨.hbm, 206, rfl⟩
abbrev main_v166 : Ref sig .tc := ⟨.hbm, 207, rfl⟩
abbrev main_v167 : Ref sig .tc := ⟨.hbm, 208, rfl⟩
abbrev main_v168 : Ref sig .tc := ⟨.hbm, 209, rfl⟩
abbrev main_v169 : Ref sig .tc := ⟨.hbm, 210, rfl⟩
abbrev main_v170 : Ref sig .tc := ⟨.hbm, 211, rfl⟩
abbrev main_v171 : Ref sig .tc := ⟨.hbm, 212, rfl⟩
abbrev main_v172 : Ref sig .tc := ⟨.hbm, 213, rfl⟩
abbrev main_cst_28 : Ref sig .tc := ⟨.hbm, 214, rfl⟩
abbrev main_v173 : Ref sig .tc := ⟨.hbm, 215, rfl⟩
abbrev main_c_29 : Ref sig .tc := ⟨.hbm, 216, rfl⟩
abbrev main_v174 : Ref sig .tc := ⟨.hbm, 217, rfl⟩
abbrev main_c_30 : Ref sig .tc := ⟨.hbm, 218, rfl⟩
abbrev main_v175 : Ref sig .tc := ⟨.hbm, 219, rfl⟩
abbrev main_v176 : Ref sig .tc := ⟨.hbm, 220, rfl⟩
abbrev main_v177 : Ref sig .tc := ⟨.hbm, 221, rfl⟩
abbrev main_v178 : Ref sig .tc := ⟨.hbm, 222, rfl⟩
abbrev main_call2_v0 : Ref sig .tc := ⟨.hbm, 223, rfl⟩
abbrev main_call2_cst : Ref sig .tc := ⟨.hbm, 224, rfl⟩
abbrev main_v179 : Ref sig .tc := ⟨.hbm, 225, rfl⟩
abbrev main_v180 : Ref sig .tc := ⟨.hbm, 226, rfl⟩
abbrev main_cst_31 : Ref sig .tc := ⟨.hbm, 227, rfl⟩
abbrev main_call3_v0 : Ref sig .tc := ⟨.hbm, 228, rfl⟩
abbrev main_v181 : Ref sig .tc := ⟨.hbm, 229, rfl⟩
abbrev main_cst_32 : Ref sig .tc := ⟨.hbm, 230, rfl⟩
abbrev main_v182 : Ref sig .tc := ⟨.hbm, 231, rfl⟩
abbrev main_v183 : Ref sig .tc := ⟨.hbm, 232, rfl⟩
abbrev main_cst_33 : Ref sig .tc := ⟨.hbm, 233, rfl⟩
abbrev main_v184 : Ref sig .tc := ⟨.hbm, 234, rfl⟩
abbrev main_v185 : Ref sig .tc := ⟨.hbm, 235, rfl⟩
abbrev main_cst_34 : Ref sig .tc := ⟨.hbm, 236, rfl⟩
abbrev main_call4_v0 : Ref sig .tc := ⟨.hbm, 237, rfl⟩
abbrev main_call4_v1 : Ref sig .tc := ⟨.hbm, 238, rfl⟩
abbrev main_v186 : Ref sig .tc := ⟨.hbm, 239, rfl⟩
abbrev main_v187 : Ref sig .tc := ⟨.hbm, 240, rfl⟩
abbrev main_v188 : Ref sig .tc := ⟨.hbm, 241, rfl⟩
abbrev main_v189 : Ref sig .tc := ⟨.hbm, 242, rfl⟩
abbrev main_v190 : Ref sig .tc := ⟨.hbm, 243, rfl⟩
abbrev main_cst_35 : Ref sig .tc := ⟨.hbm, 244, rfl⟩
abbrev main_v191 : Ref sig .tc := ⟨.hbm, 245, rfl⟩
abbrev main_v192 : Ref sig .tc := ⟨.hbm, 246, rfl⟩
abbrev main_v193 : Ref sig .tc := ⟨.hbm, 247, rfl⟩
abbrev main_c_36 : Ref sig .tc := ⟨.hbm, 248, rfl⟩
abbrev main_v194 : Ref sig .tc := ⟨.hbm, 249, rfl⟩
abbrev main_v195 : Ref sig .tc := ⟨.hbm, 250, rfl⟩
abbrev main_c_37 : Ref sig .tc := ⟨.hbm, 251, rfl⟩
abbrev main_v196 : Ref sig .tc := ⟨.hbm, 252, rfl⟩
abbrev main_v197 : Ref sig .tc := ⟨.hbm, 253, rfl⟩
abbrev main_v198 : Ref sig .tc := ⟨.hbm, 254, rfl⟩
abbrev main_c_38 : Ref sig .tc := ⟨.hbm, 255, rfl⟩
abbrev main_v199 : Ref sig .tc := ⟨.hbm, 256, rfl⟩
abbrev main_v200 : Ref sig .tc := ⟨.hbm, 257, rfl⟩
abbrev main_c_39 : Ref sig .tc := ⟨.hbm, 258, rfl⟩
abbrev main_v201 : Ref sig .tc := ⟨.hbm, 259, rfl⟩
abbrev main_v202 : Ref sig .tc := ⟨.hbm, 260, rfl⟩
abbrev main_v203 : Ref sig .tc := ⟨.hbm, 261, rfl⟩
abbrev main_c_40 : Ref sig .tc := ⟨.hbm, 262, rfl⟩
abbrev main_v204 : Ref sig .tc := ⟨.hbm, 263, rfl⟩
abbrev main_v205 : Ref sig .tc := ⟨.hbm, 264, rfl⟩
abbrev main_c_41 : Ref sig .tc := ⟨.hbm, 265, rfl⟩
abbrev main_v206 : Ref sig .tc := ⟨.hbm, 266, rfl⟩
abbrev main_v207 : Ref sig .tc := ⟨.hbm, 267, rfl⟩
abbrev main_v208 : Ref sig .tc := ⟨.hbm, 268, rfl⟩
abbrev main_v209 : Ref sig .tc := ⟨.hbm, 269, rfl⟩
abbrev main_v210 : Ref sig .tc := ⟨.hbm, 270, rfl⟩
abbrev main_v211 : Ref sig .tc := ⟨.hbm, 271, rfl⟩
abbrev main_v212 : Ref sig .tc := ⟨.hbm, 272, rfl⟩
abbrev main_v213 : Ref sig .tc := ⟨.hbm, 273, rfl⟩
abbrev main_v214 : Ref sig .tc := ⟨.hbm, 274, rfl⟩
abbrev main_v215 : Ref sig .tc := ⟨.hbm, 275, rfl⟩
abbrev main_v216 : Ref sig .tc := ⟨.hbm, 276, rfl⟩
abbrev main_v217 : Ref sig .tc := ⟨.hbm, 277, rfl⟩
abbrev main_call5_v0 : Ref sig .tc := ⟨.hbm, 278, rfl⟩
abbrev main_call5_cst : Ref sig .tc := ⟨.hbm, 279, rfl⟩
abbrev main_call5_v1 : Ref sig .tc := ⟨.hbm, 280, rfl⟩
abbrev main_v218 : Ref sig .tc := ⟨.hbm, 281, rfl⟩
abbrev main_v219 : Ref sig .tc := ⟨.hbm, 282, rfl⟩
abbrev main_cst_42 : Ref sig .tc := ⟨.hbm, 283, rfl⟩
abbrev main_call6_v0 : Ref sig .tc := ⟨.hbm, 284, rfl⟩
abbrev main_call6_v1 : Ref sig .tc := ⟨.hbm, 285, rfl⟩
abbrev main_v220 : Ref sig .tc := ⟨.hbm, 286, rfl⟩
abbrev main_v221 : Ref sig .tc := ⟨.hbm, 287, rfl⟩
abbrev main_c_43 : Ref sig .tc := ⟨.hbm, 288, rfl⟩
abbrev main_v222 : Ref sig .tc := ⟨.hbm, 289, rfl⟩
abbrev main_c_44 : Ref sig .tc := ⟨.hbm, 290, rfl⟩
abbrev main_v223 : Ref sig .tc := ⟨.hbm, 291, rfl⟩
abbrev main_v224 : Ref sig .tc := ⟨.hbm, 292, rfl⟩
abbrev main_v225 : Ref sig .tc := ⟨.hbm, 293, rfl⟩
abbrev main_v226 : Ref sig .tc := ⟨.hbm, 294, rfl⟩
abbrev main_cst_45 : Ref sig .tc := ⟨.hbm, 295, rfl⟩
abbrev main_v227 : Ref sig .tc := ⟨.hbm, 296, rfl⟩
abbrev main_cst_46 : Ref sig .tc := ⟨.hbm, 297, rfl⟩
abbrev main_call7_v0 : Ref sig .tc := ⟨.hbm, 298, rfl⟩
abbrev main_call7_v1 : Ref sig .tc := ⟨.hbm, 299, rfl⟩
abbrev main_v228 : Ref sig .tc := ⟨.hbm, 300, rfl⟩
abbrev main_v229 : Ref sig .tc := ⟨.hbm, 301, rfl⟩
abbrev main_v230 : Ref sig .tc := ⟨.hbm, 302, rfl⟩
abbrev main_v231 : Ref sig .tc := ⟨.hbm, 303, rfl⟩
abbrev main_v232 : Ref sig .tc := ⟨.hbm, 304, rfl⟩
abbrev main_v233 : Ref sig .tc := ⟨.hbm, 305, rfl⟩
abbrev main_v234 : Ref sig .tc := ⟨.hbm, 306, rfl⟩
abbrev main_v235 : Ref sig .tc := ⟨.hbm, 307, rfl⟩
abbrev main_v236 : Ref sig .tc := ⟨.hbm, 308, rfl⟩
abbrev main_v237 : Ref sig .tc := ⟨.hbm, 309, rfl⟩
abbrev main_cst_47 : Ref sig .tc := ⟨.hbm, 310, rfl⟩
abbrev main_call9_v0 : Ref sig .tc := ⟨.hbm, 311, rfl⟩
abbrev main_call9_v1 : Ref sig .tc := ⟨.hbm, 312, rfl⟩
abbrev main_v238 : Ref sig .tc := ⟨.hbm, 313, rfl⟩
abbrev main_cst_48 : Ref sig .tc := ⟨.hbm, 314, rfl⟩
abbrev main_v239 : Ref sig .tc := ⟨.hbm, 315, rfl⟩
abbrev main_v240 : Ref sig .tc := ⟨.hbm, 316, rfl⟩
abbrev main_cst_49 : Ref sig .tc := ⟨.hbm, 317, rfl⟩
abbrev main_v241 : Ref sig .tc := ⟨.hbm, 318, rfl⟩
abbrev main_v242 : Ref sig .tc := ⟨.hbm, 319, rfl⟩
abbrev main_cst_50 : Ref sig .tc := ⟨.hbm, 320, rfl⟩
abbrev main_v243 : Ref sig .tc := ⟨.hbm, 321, rfl⟩
abbrev main_v244 : Ref sig .tc := ⟨.hbm, 322, rfl⟩
abbrev main_cst_51 : Ref sig .tc := ⟨.hbm, 323, rfl⟩
abbrev main_v245 : Ref sig .tc := ⟨.hbm, 324, rfl⟩
abbrev main_v246 : Ref sig .tc := ⟨.hbm, 325, rfl⟩
abbrev main_cst_52 : Ref sig .tc := ⟨.hbm, 326, rfl⟩
abbrev main_v247 : Ref sig .tc := ⟨.hbm, 327, rfl⟩
abbrev main_v248 : Ref sig .tc := ⟨.hbm, 328, rfl⟩
abbrev main_v249 : Ref sig .tc := ⟨.hbm, 329, rfl⟩
abbrev main_v250 : Ref sig .tc := ⟨.hbm, 330, rfl⟩
abbrev main_v251 : Ref sig .tc := ⟨.hbm, 331, rfl⟩
abbrev main_cst_53 : Ref sig .tc := ⟨.hbm, 332, rfl⟩
abbrev main_v252 : Ref sig .tc := ⟨.hbm, 333, rfl⟩
abbrev main_v253 : Ref sig .tc := ⟨.hbm, 334, rfl⟩
abbrev main_v254 : Ref sig .tc := ⟨.hbm, 335, rfl⟩
abbrev main_v255 : Ref sig .tc := ⟨.hbm, 336, rfl⟩
abbrev main_cst_54 : Ref sig .tc := ⟨.hbm, 337, rfl⟩
abbrev main_call10_v0 : Ref sig .tc := ⟨.hbm, 338, rfl⟩
abbrev main_call10_v1 : Ref sig .tc := ⟨.hbm, 339, rfl⟩
abbrev main_v256 : Ref sig .tc := ⟨.hbm, 340, rfl⟩
abbrev main_cst_55 : Ref sig .tc := ⟨.hbm, 341, rfl⟩
abbrev main_v257 : Ref sig .tc := ⟨.hbm, 342, rfl⟩
abbrev main_v258 : Ref sig .tc := ⟨.hbm, 343, rfl⟩
abbrev main_c_56 : Ref sig .tc := ⟨.hbm, 344, rfl⟩
abbrev main_v259 : Ref sig .tc := ⟨.hbm, 345, rfl⟩
abbrev main_c_57 : Ref sig .tc := ⟨.hbm, 346, rfl⟩
abbrev main_v260 : Ref sig .tc := ⟨.hbm, 347, rfl⟩
abbrev main_v261 : Ref sig .tc := ⟨.hbm, 348, rfl⟩
abbrev main_v262 : Ref sig .tc := ⟨.hbm, 349, rfl⟩
abbrev main_cst_58 : Ref sig .tc := ⟨.hbm, 350, rfl⟩
abbrev main_v263 : Ref sig .tc := ⟨.hbm, 351, rfl⟩
abbrev main_v264 : Ref sig .tc := ⟨.hbm, 352, rfl⟩

abbrev nD : Nat := 1
abbrev τ : Topo := Topo.v7x

variable {F : FTy → Type} [FloatOps F]
-- ==== Proof.Lits.lean ====
/- The float literals that the two programs write, as extended reals. -/
module

public import Idealize.ShloMosaic.PureOps.Ideal
public import Mathlib.Tactic.NormNum

@[expose] public section

noncomputable section

namespace Cert.Proof

open Idealize.ShloMosaic

/-- The literal 0.5. -/
theorem lit_half : Ideal.ofBits .f32 0x3F000000#32 = ((1 / 2 : ℝ) : EReal) := by
  simp [Ideal.ofBits, Ideal.ieee, -EReal.coe_mul]; norm_num

/-- The literal 1. -/
theorem lit_one : Ideal.ofBits .f32 0x3F800000#32 = ((1 : ℝ) : EReal) := by
  simp [Ideal.ofBits, Ideal.ieee, -EReal.coe_mul]; norm_num

/-- The literal -1. -/
theorem lit_neg_one : Ideal.ofBits .f32 0xBF800000#32 = ((-1 : ℝ) : EReal) := by
  simp [Ideal.ofBits, Ideal.ieee, -EReal.coe_mul]; norm_num

/-- The literal 2. -/
theorem lit_two : Ideal.ofBits .f32 0x40000000#32 = ((2 : ℝ) : EReal) := by
  simp [Ideal.ofBits, Ideal.ieee, -EReal.coe_mul]; norm_num

/-- The literal 5. -/
theorem lit_five : Ideal.ofBits .f32 0x40A00000#32 = ((5 : ℝ) : EReal) := by
  simp [Ideal.ofBits, Ideal.ieee, -EReal.coe_mul]; norm_num

/-- The literal 10. -/
theorem lit_ten : Ideal.ofBits .f32 0x41200000#32 = ((10 : ℝ) : EReal) := by
  simp [Ideal.ofBits, Ideal.ieee, -EReal.coe_mul]; norm_num

/-- The literal 2 ^ 40. -/
theorem lit_res : Ideal.ofBits .f32 0x53800000#32 = ((1099511627776 : ℝ) : EReal) := by
  simp [Ideal.ofBits, Ideal.ieee, -EReal.coe_mul]; norm_num

/-- The literal plus infinity. -/
theorem lit_top : Ideal.ofBits .f32 0x7F800000#32 = ⊤ := by
  simp [Ideal.ofBits, Ideal.ieee]

/-- The literal minus infinity. -/
theorem lit_bot : Ideal.ofBits .f32 0xFF800000#32 = ⊥ := by
  simp [Ideal.ofBits, Ideal.ieee]

/-- The literal 0. -/
theorem lit_zero : Ideal.ofBits .f32 0x00000000#32 = 0 := by
  simp [Ideal.ofBits, Ideal.ieee]

end Cert.Proof

end
-- ==== Proof.Bisect.lean ====
/- The mathematics of the hard negatives: a bisection that counts the elements above its middle finds the least of the
   k largest elements up to the width it has reached, and the sum it then takes is the sum of the k largest. -/
module

public import Mathlib.Data.EReal.Operations
public import Mathlib.Algebra.Order.Floor.Ring
public import Mathlib.Algebra.BigOperators.Group.Finset.Piecewise
public import Mathlib.Algebra.BigOperators.Ring.Finset
public import Mathlib.Data.Fintype.Fin
public import Mathlib.Data.Finset.Max
public import Mathlib.Order.Interval.Finset.Fin
public import Mathlib.Tactic.Linarith
public import Mathlib.Tactic.FieldSimp
public import Mathlib.Tactic.Ring
public import Mathlib.Tactic.NormNum

@[expose] public section

noncomputable section

namespace Cert.Proof

/-- One step of the bisection: the half above the middle is kept when the searched value lies above the middle. -/
def bstep (v : ℝ) (c : ℝ × ℝ) : ℝ × ℝ :=
  if (c.1 + c.2) / 2 < v then ((c.1 + c.2) / 2, c.2) else (c.1, (c.1 + c.2) / 2)

/-- `n` steps of the bisection from `-1` and `M`. -/
def bisect (v M : ℝ) : ℕ → ℝ × ℝ
  | 0 => (-1, M)
  | n + 1 => bstep v (bisect v M n)

/-- After `n` steps the interval is the cell of width `(M + 1) / 2 ^ n`, counted from `-1`, that holds the value. -/
theorem bisect_cell (v M : ℝ) (hv : -1 < v) (hM : v ≤ M) (n : ℕ) :
    ∃ j : ℤ, (bisect v M n).2 + 1 = j * ((M + 1) / 2 ^ n) ∧ (bisect v M n).1 + 1 = (j - 1) * ((M + 1) / 2 ^ n)
      ∧ (j - 1) * ((M + 1) / 2 ^ n) < v + 1 ∧ v + 1 ≤ j * ((M + 1) / 2 ^ n) := by
  induction n with
  | zero => exact ⟨1, by simp [bisect], by simp [bisect], by simp; linarith, by simp; linarith⟩
  | succ n ih =>
    obtain ⟨j, h2, h1, hl, hu⟩ := ih
    have hw : (M + 1) / 2 ^ n = 2 * ((M + 1) / 2 ^ (n + 1)) := by
      rw [pow_succ]; field_simp
    rw [hw] at h2 h1 hl hu
    generalize (M + 1) / 2 ^ (n + 1) = w at h2 h1 hl hu ⊢
    simp only [bisect, bstep]
    split_ifs with h
    · refine ⟨2 * j, ?_, ?_, ?_, ?_⟩ <;> push_cast <;> linarith
    · refine ⟨2 * j - 1, ?_, ?_, ?_, ?_⟩ <;> push_cast <;> linarith

/-- The upper end after `n` steps is the searched value rounded up to a whole number of cells above `-1`. -/
theorem bisect_ceil (v M : ℝ) (hv : -1 < v) (hM : v ≤ M) (n : ℕ) :
    (bisect v M n).2 = (⌈(v + 1) / ((M + 1) / 2 ^ n)⌉ : ℝ) * ((M + 1) / 2 ^ n) - 1 := by
  obtain ⟨j, h2, -, hl, hu⟩ := bisect_cell v M hv hM n
  have hw : 0 < (M + 1) / 2 ^ n := div_pos (by linarith) (by positivity)
  have hj : ⌈(v + 1) / ((M + 1) / 2 ^ n)⌉ = j := by
    rw [Int.ceil_eq_iff]
    exact ⟨by rwa [lt_div_iff₀ hw], by rwa [div_le_iff₀ hw]⟩
  rw [hj]; linarith

/-- The rounded value is not below the searched one. -/
theorem le_bisect (v M : ℝ) (hv : -1 < v) (hM : v ≤ M) (n : ℕ) : v ≤ (bisect v M n).2 := by
  obtain ⟨j, h2, -, -, hu⟩ := bisect_cell v M hv hM n
  linarith

/-- The k-th largest element lies above `t` exactly when at least `k` elements do. -/
theorem count_ge_iff {P : ℕ} (x : Fin P → ℝ) (σ : Equiv.Perm (Fin P)) (hanti : Antitone (x ∘ σ)) (r : Fin P) (t : ℝ) :
    (r : ℕ) + 1 ≤ (Finset.univ.filter fun p => t < x p).card ↔ t < x (σ r) := by
  have hc : (Finset.univ.filter fun p => t < x p).card = (Finset.univ.filter fun p => t < x (σ p)).card := by
    refine (Finset.card_bij (fun p _ => σ p) ?_ ?_ ?_).symm
    · intro p hp; simpa using hp
    · intro p _ q _ h; exact σ.injective h
    · intro p hp; exact ⟨σ.symm p, by simpa using hp, by simp⟩
  rw [hc]
  constructor
  · intro h
    by_contra hn
    have hsub : (Finset.univ.filter fun p => t < x (σ p)) ⊆ Finset.Iio r := by
      intro p hp
      simp only [Finset.mem_filter, Finset.mem_univ, true_and] at hp
      rw [Finset.mem_Iio]
      by_contra hpr
      exact hn (lt_of_lt_of_le hp (hanti (not_lt.mp hpr)))
    have := Finset.card_le_card hsub
    rw [Fin.card_Iio] at this
    omega
  · intro h
    have hsub : Finset.Iic r ⊆ (Finset.univ.filter fun p => t < x (σ p)) := by
      intro p hp
      simp only [Finset.mem_filter, Finset.mem_univ, true_and]
      exact lt_of_lt_of_le h (hanti (Finset.mem_Iic.mp hp))
    have := Finset.card_le_card hsub
    rw [Fin.card_Iic] at this
    omega

/-- The sum of the elements above `t`, with `t` for each of the `k` places they leave, is the sum over the `k` largest
    elements of the greater of the element and `t`, when the k-th largest is at most `t`. -/
theorem sum_above {P : ℕ} (x : Fin P → ℝ) (σ : Equiv.Perm (Fin P)) (k : ℕ) (hk : k ≤ P) (t : ℝ)
    (ht : ∀ r : Fin P, k ≤ r → x (σ r) ≤ t) :
    (∑ p, if t < x p then x p else 0) + t * (k - ∑ p, if t < x p then (1 : ℝ) else 0)
      = ∑ r : Fin P, if (r : ℕ) < k then max (x (σ r)) t else 0 := by
  have hkc : (k : ℝ) = ∑ r : Fin P, if (r : ℕ) < k then (1 : ℝ) else 0 := by
    rw [Finset.sum_boole]
    congr 1
    have : (Finset.univ.filter fun r : Fin P => (r : ℕ) < k).card = k := by
      rw [Fin.card_filter_val_lt, min_eq_right hk]
    exact this.symm
  rw [← Equiv.sum_comp σ (fun p => if t < x p then x p else 0), ← Equiv.sum_comp σ (fun p => if t < x p then (1 : ℝ) else 0),
    hkc, ← Finset.sum_sub_distrib, Finset.mul_sum, ← Finset.sum_add_distrib]
  refine Finset.sum_congr rfl fun r _ => ?_
  by_cases h1 : (r : ℕ) < k
  · by_cases h2 : t < x (σ r)
    · simp [h1, h2, max_eq_left h2.le]
    · simp [h1, h2, max_eq_right (not_lt.mp h2)]
  · have := ht r (not_lt.mp h1)
    simp [h1, not_lt.mpr this]

end Cert.Proof

end
-- ==== Proof.KMine.lean ====
/- The mining kernel: what its bisection and its last sum leave in a row, as the sum over the hard negatives. -/
module

public import proofs.«01_k».proof.Proof.Lits
public import proofs.«01_k».proof.Proof.Bisect
public import proofs.«01_k».proof.Proof.Gen.KernelIdeal.Skeleton
public import Idealize.ShloMosaic.Lib.Pointwise
public import Idealize.ShloMosaic.Lib.Exec

@[expose] public section

set_option maxRecDepth 16384

noncomputable section

namespace Cert.Proof

open Idealize.ShloMosaic Cert.KernelIdeal Cert.KernelIdeal.Gen

/-- A sum of reals, as extended reals. -/
theorem coe_sum {ι : Type} (s : Finset ι) (f : ι → ℝ) : ((∑ i ∈ s, f i : ℝ) : EReal) = ∑ i ∈ s, (f i : EReal) := by
  induction s using Finset.cons_induction with
  | empty => simp
  | cons a s ha ih => rw [Finset.sum_cons, Finset.sum_cons, EReal.coe_add, ih]

/-- A comparison's bit widened and converted is one or zero. -/
theorem bit_conv (p : Prop) [Decidable p] :
    FloatOps.sitofp (F := Ideal) .f32 (BitVec.setWidth 32 (BitVec.ofBool (decide p))) = ((if p then (1 : ℝ) else 0 : ℝ) : EReal) := by
  by_cases h : p <;> simp [h, FloatOps.sitofp]

/-- A small word read signed. -/
theorem toInt_small (a : ℕ) (h : a < 2 ^ 31) : (BitVec.ofNat 32 a).toInt = a := by
  have h1 : (BitVec.ofNat 32 a).toNat = a := by rw [BitVec.toNat_ofNat]; exact Nat.mod_eq_of_lt (by omega)
  rw [BitVec.toInt_eq_toNat_of_lt (by rw [h1]; omega), h1]

/-- Three times a count, signed, against a place. -/
theorem three_slt (N r : ℕ) (hN : N ≤ 8732) (hr : r < 8732) :
    (BitVec.ofNat 32 r).slt (IntOp.muli (3#32) (BitVec.ofNat 32 N)) = decide (r < min (3 * N) 8732) := by
  have h1 : (BitVec.ofNat 32 r).toInt = r := toInt_small r (by omega)
  have h2 : (IntOp.muli (3#32) (BitVec.ofNat 32 N)).toInt = 3 * N := by
    have : IntOp.muli (3#32) (BitVec.ofNat 32 N) = BitVec.ofNat 32 (3 * N) := by
      simp [IntOp.muli, BitVec.ofNat_mul]
    rw [this, toInt_small _ (by omega)]; simp
  rw [BitVec.slt_eq_decide, h1, h2]
  exact decide_eq_decide.mpr (by omega)

/-- The number of hard negatives the kernel takes, as a float. -/
theorem k_at (n : Vec Ideal S64x1 .i32) (b : Fin 64) (N : ℕ) (hN : N ≤ 8732) (hn : n (ix2 b 0) = BitVec.ofNat 32 N) :
    k2_pay2 (F := Ideal) n (ix2 b 0) = (((min (3 * N) 8732 : ℕ) : ℝ) : EReal) := by
  pointwise [k2_pay2]
  rw [hn]
  have : IntOp.minsi (IntOp.muli (3#32) (BitVec.ofNat 32 N)) 8732#32 = BitVec.ofNat 32 (min (3 * N) 8732) := by
    have h : IntOp.muli (3#32) (BitVec.ofNat 32 N) = BitVec.ofNat 32 (3 * N) := by
      simp [IntOp.muli, BitVec.ofNat_mul]
    have h2 : (BitVec.ofNat 32 (3 * N)).toInt = 3 * N := by
      rw [toInt_small _ (by omega)]; simp
    rw [h]
    simp only [IntOp.minsi, BitVec.sle_eq_decide, BitVec.slt_eq_decide, h2]
    by_cases hc : 3 * N ≤ 8732
    · rw [min_eq_left hc]; simp; omega
    · rw [min_eq_right (by omega)]; simp; omega
  rw [this]
  show (((BitVec.ofNat 32 (min (3 * N) 8732)).toInt : ℝ) : EReal) = _
  rw [toInt_small _ (by omega)]; simp

/-- The middle of the carried interval. -/
theorem mid_at (lo hi : FVec Ideal S64x1 .f32) (b : Fin 64) :
    k2_pay5 (F := Ideal) lo hi (ix2 b 0) = (lo (ix2 b 0) + hi (ix2 b 0)) * ((1 / 2 : ℝ) : EReal) := by
  pointwise [k2_pay5]
  rw [lit_half]

/-- The choice of the upper half: enough elements lie above the middle. -/
theorem take_at (x : Vec Ideal S64x8732 .f32) (n : Vec Ideal S64x1 .i32) (lo hi : FVec Ideal S64x1 .f32) (b : Fin 64) :
    k2_pay6 (F := Ideal) x n lo hi (ix2 b 0)
      = BitVec.ofBool (decide (k2_pay2 (F := Ideal) n (ix2 b 0)
        ≤ ∑ p : Fin 8732, ((if k2_pay5 (F := Ideal) lo hi (ix2 b 0) < x (ix2 b p) then (1 : ℝ) else 0 : ℝ) : EReal))) := by
  pointwise [k2_pay6, k2_pay1]
  simp only [bit_conv]

/-- The new lower end. -/
theorem lo_at (x : Vec Ideal S64x8732 .f32) (n : Vec Ideal S64x1 .i32) (lo hi : FVec Ideal S64x1 .f32) (b : Fin 64) :
    k2_pay7 (F := Ideal) x n lo hi (ix2 b 0)
      = Scalar.select (k2_pay6 (F := Ideal) x n lo hi (ix2 b 0)) (k2_pay5 (F := Ideal) lo hi (ix2 b 0)) (lo (ix2 b 0)) := by
  pointwise [k2_pay7]

/-- The new upper end. -/
theorem hi_at (x : Vec Ideal S64x8732 .f32) (n : Vec Ideal S64x1 .i32) (lo hi : FVec Ideal S64x1 .f32) (b : Fin 64) :
    k2_pay8 (F := Ideal) x n lo hi (ix2 b 0)
      = Scalar.select (k2_pay6 (F := Ideal) x n lo hi (ix2 b 0)) (hi (ix2 b 0)) (k2_pay5 (F := Ideal) lo hi (ix2 b 0)) := by
  pointwise [k2_pay8]

/-- The first upper end: the greatest element. -/
theorem init_at (x : Vec Ideal S64x8732 .f32) (b : Fin 64) :
    k2_pay3 (F := Ideal) x (ix2 b 0) = Finset.univ.fold max ⊥ fun p : Fin 8732 => x (ix2 b p) := by
  pointwise [k2_pay3, k2_pay1]
  rw [lit_bot]

/-- The row's last sum. -/
theorem hard_at (x : Vec Ideal S64x8732 .f32) (n : Vec Ideal S64x1 .i32) (t : FVec Ideal S64x1 .f32) (b : Fin 64) :
    k2_pay9 (F := Ideal) x n t (ix2 b 0)
      = if 0 < k2_pay2 (F := Ideal) n (ix2 b 0) then
          (∑ p : Fin 8732, if t (ix2 b 0) < x (ix2 b p) then x (ix2 b p) else 0) + t (ix2 b 0)
            * (k2_pay2 (F := Ideal) n (ix2 b 0) - ∑ p : Fin 8732, ((if t (ix2 b 0) < x (ix2 b p) then (1 : ℝ) else 0 : ℝ) : EReal))
        else 0 := by
  pointwise [k2_pay9, k2_pay1]
  simp only [bit_conv]

/-- The carried interval's upper end after the loop is the bisection's. -/
theorem fold_bisect (x : Vec Ideal S64x8732 .f32) (n : Vec Ideal S64x1 .i32) (b : Fin 64) (y : Fin 8732 → ℝ)
    (hx : ∀ p, x (ix2 b p) = (y p : EReal)) (N : ℕ) (hN : N ≤ 8732) (hn : n (ix2 b 0) = BitVec.ofNat 32 N)
    (σ : Equiv.Perm (Fin 8732)) (hanti : Antitone (y ∘ σ)) (r : Fin 8732) (hr : (r : ℕ) + 1 = min (3 * N) 8732)
    (M : ℝ) (hM : k2_pay3 (F := Ideal) x (ix2 b 0) = (M : EReal)) {m : ℕ} :
    ∀ (c : FVec Ideal S64x1 .f32 × FVec Ideal S64x1 .f32) (i : ℕ) (l : List (Fin m)),
      c.1 (ix2 b 0) = ((bisect (y (σ r)) M i).1 : EReal) → c.2 (ix2 b 0) = ((bisect (y (σ r)) M i).2 : EReal) →
      ((l.foldl (fun acc _ => (k2_pay7 (F := Ideal) x n acc.1 acc.2, k2_pay8 (F := Ideal) x n acc.1 acc.2)) c).2 (ix2 b 0))
        = ((bisect (y (σ r)) M (i + l.length)).2 : EReal) := by
  intro c i l
  induction l generalizing c i with
  | nil => intro _ h; simpa using h
  | cons a l ih =>
    intro h1 h2
    have hmid : k2_pay5 (F := Ideal) c.1 c.2 (ix2 b 0)
        = ((((bisect (y (σ r)) M i).1 + (bisect (y (σ r)) M i).2) / 2 : ℝ) : EReal) := by
      rw [mid_at, h1, h2, ← EReal.coe_add, ← EReal.coe_mul]
      exact congrArg (fun z : ℝ => (z : EReal)) (by ring)
    have htake : k2_pay6 (F := Ideal) x n c.1 c.2 (ix2 b 0)
        = BitVec.ofBool (decide (((bisect (y (σ r)) M i).1 + (bisect (y (σ r)) M i).2) / 2 < y (σ r))) := by
      rw [take_at, hmid, k_at n b N hN hn]
      refine congrArg BitVec.ofBool (decide_eq_decide.mpr ?_)
      simp only [hx]
      rw [← coe_sum, EReal.coe_le_coe_iff]
      simp only [EReal.coe_lt_coe_iff]
      rw [Finset.sum_boole, Nat.cast_le, ← hr]
      exact count_ge_iff y σ hanti r _
    rw [List.foldl_cons, List.length_cons, ← add_assoc, add_right_comm]
    refine ih _ (i + 1) ?_ ?_
    · show k2_pay7 (F := Ideal) x n c.1 c.2 (ix2 b 0) = _
      rw [lo_at, htake, hmid, h1]
      rw [show bisect (y (σ r)) M (i + 1) = bstep (y (σ r)) (bisect (y (σ r)) M i) from rfl]
      generalize bisect (y (σ r)) M i = cc
      unfold bstep
      by_cases h : (cc.1 + cc.2) / 2 < y (σ r)
      · rw [if_pos h, decide_eq_true h]; rfl
      · rw [if_neg h, decide_eq_false h]; rfl
    · show k2_pay8 (F := Ideal) x n c.1 c.2 (ix2 b 0) = _
      rw [hi_at, htake, hmid, h2]
      rw [show bisect (y (σ r)) M (i + 1) = bstep (y (σ r)) (bisect (y (σ r)) M i) from rfl]
      generalize bisect (y (σ r)) M i = cc
      unfold bstep
      by_cases h : (cc.1 + cc.2) / 2 < y (σ r)
      · rw [if_pos h, decide_eq_true h]; rfl
      · rw [if_neg h, decide_eq_false h]; rfl

/-- The sum over the hard negatives as the plain program writes it: the first `3 n` places of the sorted row, each at
    least the least of them rounded up to the resolution. -/
def hardRow (x s : Fin 8732 → EReal) (n : BitVec 32) : EReal :=
  ∑ r : Fin 8732, if (BitVec.ofNat 32 r.val).slt (IntOp.muli (3#32) n) then
    max (s r) (Ideal.liftRound Int.ceil (Ideal.div
      ((Finset.univ.fold min ⊤ fun q : Fin 8732 => if (BitVec.ofNat 32 q.val).slt (IntOp.muli (3#32) n) then s q else ⊤)
        + ((1 : ℝ) : EReal))
      (Ideal.div ((Finset.univ.fold max ⊥ fun p : Fin 8732 => x p) + ((1 : ℝ) : EReal)) ((1099511627776 : ℝ) : EReal)))
      * (Ideal.div ((Finset.univ.fold max ⊥ fun p : Fin 8732 => x p) + ((1 : ℝ) : EReal)) ((1099511627776 : ℝ) : EReal))
      - ((1 : ℝ) : EReal))
  else 0

/-- A division of reals by a real that is not zero. -/
theorem div_coe (a b : ℝ) (hb : b ≠ 0) : Ideal.div (a : EReal) (b : EReal) = ((a / b : ℝ) : EReal) := by
  unfold Ideal.div
  rw [if_neg (by exact_mod_cast hb), ← EReal.coe_inv, ← EReal.coe_mul, div_eq_mul_inv]

/-- The greatest element of a row of reals is one of them and at least each. -/
theorem fold_max_real (y : Fin 8732 → ℝ) :
    ∃ M : ℝ, (Finset.univ.fold max ⊥ fun p : Fin 8732 => (y p : EReal)) = (M : EReal) ∧ (∀ p, y p ≤ M) := by
  obtain ⟨q, -, hq⟩ := Finset.exists_max_image Finset.univ y ⟨0, Finset.mem_univ _⟩
  refine ⟨y q, le_antisymm ?_ ?_, fun p => hq p (Finset.mem_univ _)⟩
  · rw [Finset.fold_max_le]
    exact ⟨bot_le, fun p hp => EReal.coe_le_coe_iff.mpr (hq p hp)⟩
  · rw [Finset.le_fold_max]
    exact .inr ⟨q, Finset.mem_univ _, le_rfl⟩

/-- The row that the mining kernel stores is the sum over the hard negatives. -/
theorem mine_row (x : Vec Ideal S64x8732 .f32) (n : Vec Ideal S64x1 .i32) (b : Fin 64) (y : Fin 8732 → ℝ)
    (hx : ∀ p, x (ix2 b p) = (y p : EReal)) (hy : ∀ p, 0 ≤ y p) (N : ℕ) (hN : N ≤ 8732)
    (hn : n (ix2 b 0) = BitVec.ofNat 32 N) (σ : Equiv.Perm (Fin 8732)) (hanti : Antitone (y ∘ σ))
    (l : List (Fin 40)) (hl : l.length = 40) :
    k2_pay9 (F := Ideal) x n
        (l.foldl (fun acc _ => (k2_pay7 (F := Ideal) x n acc.1 acc.2, k2_pay8 (F := Ideal) x n acc.1 acc.2))
          (k2_pay4 (F := Ideal), k2_pay3 (F := Ideal) x)).2 (ix2 b 0)
      = hardRow (fun p => x (ix2 b p)) (fun r => x (ix2 b (σ r))) (BitVec.ofNat 32 N) := by
  rw [hard_at, k_at n b N hN hn]
  rcases Nat.eq_zero_or_pos N with h0 | hpos
  · subst h0
    rw [if_neg (by simp)]
    unfold hardRow
    refine (Finset.sum_eq_zero fun r _ => ?_).symm
    rw [three_slt 0 r.val (by omega) r.isLt]
    simp
  · obtain ⟨M, hM, hMy⟩ := fold_max_real y
    have hk1 : 1 ≤ min (3 * N) 8732 := by omega
    obtain ⟨r, hr⟩ : ∃ r : Fin 8732, (r : ℕ) + 1 = min (3 * N) 8732 := ⟨⟨min (3 * N) 8732 - 1, by omega⟩, by simp; omega⟩
    have hinit : k2_pay3 (F := Ideal) x (ix2 b 0) = (M : EReal) := by
      rw [init_at, ← hM]; simp only [hx]
    have hb0 : bisect (y (σ r)) M 0 = (-1, M) := rfl
    have hlo : k2_pay4 (F := Ideal) (ix2 b 0) = ((-1 : ℝ) : EReal) := lit_neg_one
    have ht := fold_bisect x n b y hx N hN hn σ hanti r hr M hinit (m := 40) (k2_pay4 (F := Ideal), k2_pay3 (F := Ideal) x) 0 l
      (by rw [hb0]; dsimp only; rw [hlo]) (by rw [hb0]; dsimp only; rw [hinit])
    rw [show 0 + l.length = 40 by omega] at ht
    rw [ht]
    have hv : -1 < y (σ r) := lt_of_lt_of_le (by norm_num) (hy _)
    have hceil := bisect_ceil (y (σ r)) M hv (hMy _) 40
    have hle := le_bisect (y (σ r)) M hv (hMy _) 40
    generalize (bisect (y (σ r)) M 40).2 = t at hceil hle
    have hleast : (Finset.univ.fold min ⊤ fun q : Fin 8732 =>
        if (BitVec.ofNat 32 q.val).slt (IntOp.muli (3#32) (BitVec.ofNat 32 N)) then x (ix2 b (σ q)) else ⊤) = (y (σ r) : EReal) := by
      refine le_antisymm ?_ ?_
      · rw [Finset.fold_min_le]
        refine .inr ⟨r, Finset.mem_univ _, ?_⟩
        rw [three_slt N r.val hN r.isLt, if_pos (by simp only [decide_eq_true_eq]; omega), hx]
      · rw [Finset.le_fold_min]
        refine ⟨le_top, fun q _ => ?_⟩
        rw [three_slt N q.val hN q.isLt]
        split_ifs with hq
        · simp only [decide_eq_true_eq] at hq
          rw [hx, EReal.coe_le_coe_iff]
          exact hanti (Fin.le_def.mpr (by omega))
        · exact le_top
    rw [if_pos (by rw [← EReal.coe_zero, EReal.coe_lt_coe_iff]; exact_mod_cast hk1)]
    unfold hardRow
    rw [hleast]
    simp only [hx]
    rw [hM, ← EReal.coe_add, ← EReal.coe_add, div_coe _ _ (by norm_num),
      show (1099511627776 : ℝ) = 2 ^ 40 by norm_num]
    have hw : 0 < (M + 1) / 2 ^ 40 := div_pos (by linarith [hMy r, hy r]) (by positivity)
    rw [div_coe _ _ hw.ne']
    have hfl : Ideal.liftRound Int.ceil (((y (σ r) + 1) / ((M + 1) / 2 ^ 40) : ℝ) : EReal) * (((M + 1) / 2 ^ 40 : ℝ) : EReal)
        - ((1 : ℝ) : EReal) = (t : EReal) := by
      rw [hceil, EReal.coe_sub, EReal.coe_mul]; rfl
    rw [hfl]
    have hsum := sum_above y σ (min (3 * N) 8732) (by omega) t (fun q hq => le_trans (hanti (Fin.le_def.mpr (by omega))) hle)
    have e1 : (∑ p : Fin 8732, if (t : EReal) < (y p : EReal) then (y p : EReal) else 0)
        = ((∑ p : Fin 8732, if t < y p then y p else 0 : ℝ) : EReal) := by
      rw [coe_sum]
      refine Finset.sum_congr rfl fun p _ => ?_
      by_cases h : t < y p
      · rw [if_pos h, if_pos (EReal.coe_lt_coe_iff.mpr h)]
      · rw [if_neg h, if_neg (fun h' => h (EReal.coe_lt_coe_iff.mp h'))]; rfl
    have e2 : (∑ p : Fin 8732, ((if (t : EReal) < (y p : EReal) then (1 : ℝ) else 0 : ℝ) : EReal))
        = ((∑ p : Fin 8732, if t < y p then (1 : ℝ) else 0 : ℝ) : EReal) := by
      rw [coe_sum]
      refine Finset.sum_congr rfl fun p _ => ?_
      simp only [EReal.coe_lt_coe_iff]
    have e3 : (∑ q : Fin 8732, if (BitVec.ofNat 32 q.val).slt (IntOp.muli (3#32) (BitVec.ofNat 32 N)) then
          max (y (σ q) : EReal) (t : EReal) else 0)
        = ((∑ q : Fin 8732, if (q : ℕ) < min (3 * N) 8732 then max (y (σ q)) t else 0 : ℝ) : EReal) := by
      rw [coe_sum]
      refine Finset.sum_congr rfl fun q _ => ?_
      rw [three_slt N q.val hN q.isLt]
      by_cases h : (q : ℕ) < min (3 * N) 8732
      · rw [if_pos h, if_pos (decide_eq_true h)]; exact (EReal.coe_strictMono.monotone.map_max).symm
      · rw [if_neg h, decide_eq_false h]; rfl
    rw [e1, e2, e3, ← hsum, ← EReal.coe_sub, ← EReal.coe_mul, ← EReal.coe_add]

end Cert.Proof

end
-- ==== Proof.First.lean ====
/- The first place where a row is largest, and what the folds of a program over the row's places leave there. -/
module

public import proofs.«01_k».proof.Proof.KMine
public import Mathlib.Data.Finset.Fold
public import Mathlib.Data.BitVec
public import Mathlib.Algebra.BigOperators.Group.Finset.Basic

@[expose] public section

set_option maxRecDepth 16384

noncomputable section

namespace Cert.Proof

open Idealize.ShloMosaic

/-- The places where a row is largest. -/
def tops {n : ℕ} (f : Fin n → EReal) : Finset (Fin n) := Finset.univ.filter fun i => ∀ j, f j ≤ f i

theorem tops_nonempty {n : ℕ} [NeZero n] (f : Fin n → EReal) : (tops f).Nonempty := by
  obtain ⟨i, -, hi⟩ := Finset.exists_max_image Finset.univ f Finset.univ_nonempty
  exact ⟨i, Finset.mem_filter.mpr ⟨Finset.mem_univ i, fun j => hi j (Finset.mem_univ j)⟩⟩

/-- The first place where a row is largest. -/
def first {n : ℕ} [NeZero n] (f : Fin n → EReal) : Fin n := (tops f).min' (tops_nonempty f)

theorem le_first {n : ℕ} [NeZero n] (f : Fin n → EReal) (j : Fin n) : f j ≤ f (first f) :=
  (Finset.mem_filter.mp ((tops f).min'_mem (tops_nonempty f))).2 j

theorem first_le {n : ℕ} [NeZero n] (f : Fin n → EReal) (i : Fin n) (h : ∀ j, f j ≤ f i) : first f ≤ i :=
  Finset.min'_le _ _ (Finset.mem_filter.mpr ⟨Finset.mem_univ i, h⟩)

/-- A place where the row is largest, none before it being as large, is the first one. -/
theorem first_eq {n : ℕ} [NeZero n] (f : Fin n → EReal) (i : Fin n) (h : ∀ j, f j ≤ f i) (hl : ∀ j, j < i → f j < f i) :
    first f = i :=
  le_antisymm (first_le f i h) (not_lt.mp fun hlt => absurd (le_first f i) (not_le.mpr (hl _ hlt)))

/-- The largest value of a row is the value at the first such place. -/
theorem fold_max_first {n : ℕ} [NeZero n] (f : Fin n → EReal) : Finset.univ.fold max ⊥ f = f (first f) :=
  le_antisymm ((Finset.fold_max_le _).mpr ⟨bot_le, fun j _ => le_first f j⟩)
    ((Finset.le_fold_max _).mpr (.inr ⟨first f, Finset.mem_univ _, le_rfl⟩))

theorem toInt_minsi (x y : BitVec 32) : (IntOp.minsi x y).toInt = min x.toInt y.toInt := by
  unfold IntOp.minsi
  rw [BitVec.slt_eq_decide, min_def]
  split <;> split <;> simp_all <;> omega

theorem toInt_maxsi (x y : BitVec 32) : (IntOp.maxsi x y).toInt = max x.toInt y.toInt := by
  unfold IntOp.maxsi
  rw [BitVec.slt_eq_decide, max_def]
  split <;> split <;> simp_all <;> omega

/-- The least of the numbers of the places where a row equals its largest value, every other place counting as `N`. -/
theorem fold_minsi_first {n : ℕ} [NeZero n] (hn : n < 2 ^ 31) (f : Fin n → EReal) (g : Fin n → BitVec 32)
    (N : BitVec 32) (hN : (n : ℤ) ≤ N.toInt) (hg : ∀ x, g x = if f x = f (first f) then BitVec.ofNat 32 x.val else N) :
    Finset.univ.fold IntOp.minsi 2147483647#32 g = BitVec.ofNat 32 (first f).val := by
  have hv (x : Fin n) : (BitVec.ofNat 32 x.val).toInt = x.val := toInt_small _ (by have := x.isLt; omega)
  apply BitVec.eq_of_toInt_eq
  rw [← Finset.fold_hom (op := IntOp.minsi) (op' := min) (m := BitVec.toInt) toInt_minsi, hv]
  have hf := (first f).isLt
  refine le_antisymm ((Finset.fold_min_le _).mpr (.inr ⟨first f, Finset.mem_univ _, ?_⟩))
    ((Finset.le_fold_min _).mpr ⟨?_, fun x _ => ?_⟩)
  · rw [hg, if_pos rfl, hv]
  · have : (2147483647#32).toInt = 2147483647 := by decide
    omega
  · rw [hg]
    split
    next h =>
      rw [hv]
      have := first_le f x fun j => h ▸ le_first f j
      exact_mod_cast this
    · omega

/-- The objects whose best place is `p`. -/
def claims {m n : ℕ} (best : Fin m → Fin n) (p : Fin n) : Finset (Fin m) := Finset.univ.filter fun o => best o = p

/-- The greatest of the numbers of the objects whose best place is `p`. -/
theorem fold_maxsi_some {m n : ℕ} (hm : m < 2 ^ 31) (best : Fin m → Fin n) (p : Fin n) (g : Fin m → BitVec 32)
    (hg : ∀ o, g o = if best o = p then BitVec.ofNat 32 o.val else 4294967295#32) (h : (claims best p).Nonempty) :
    Finset.univ.fold IntOp.maxsi 2147483648#32 g = BitVec.ofNat 32 ((claims best p).max' h).val := by
  have hv (x : Fin m) : (BitVec.ofNat 32 x.val).toInt = x.val := toInt_small _ (by have := x.isLt; omega)
  apply BitVec.eq_of_toInt_eq
  rw [← Finset.fold_hom (op := IntOp.maxsi) (op' := max) (m := BitVec.toInt) toInt_maxsi, hv]
  have hmem := (Finset.mem_filter.mp ((claims best p).max'_mem h)).2
  refine le_antisymm ((Finset.fold_max_le _).mpr ⟨?_, fun x _ => ?_⟩)
    ((Finset.le_fold_max _).mpr (.inr ⟨(claims best p).max' h, Finset.mem_univ _, ?_⟩))
  · have : (2147483648#32).toInt = -2147483648 := by decide
    omega
  · rw [hg]
    split
    next hx =>
      rw [hv]
      have := (claims best p).le_max' x (Finset.mem_filter.mpr ⟨Finset.mem_univ x, hx⟩)
      exact_mod_cast this
    · have : (4294967295#32).toInt = -1 := by decide
      omega
  · rw [hg, if_pos hmem, hv]

/-- Where no object's best place is `p`, the greatest number is the fill. -/
theorem fold_maxsi_none {m n : ℕ} [NeZero m] (best : Fin m → Fin n) (p : Fin n) (g : Fin m → BitVec 32)
    (hg : ∀ o, g o = if best o = p then BitVec.ofNat 32 o.val else 4294967295#32) (h : ¬ (claims best p).Nonempty) :
    Finset.univ.fold IntOp.maxsi 2147483648#32 g = 4294967295#32 := by
  have hno (o : Fin m) : best o ≠ p := fun e => h ⟨o, Finset.mem_filter.mpr ⟨Finset.mem_univ o, e⟩⟩
  have e1 : (4294967295#32).toInt = -1 := by decide
  have e2 : (2147483648#32).toInt = -2147483648 := by decide
  apply BitVec.eq_of_toInt_eq
  rw [← Finset.fold_hom (op := IntOp.maxsi) (op' := max) (m := BitVec.toInt) toInt_maxsi, e1]
  refine le_antisymm ((Finset.fold_max_le _).mpr ⟨by omega, fun x _ => ?_⟩)
    ((Finset.le_fold_max _).mpr (.inr ⟨0, Finset.mem_univ _, ?_⟩))
  · rw [hg, if_neg (hno x), e1]
  · rw [hg, if_neg (hno 0), e1]

/-- A word sum of which one term may be other than zero. -/
theorem fold_addi_pick {m : ℕ} (g : Fin m → BitVec 32) (o : Fin m) (h : ∀ x, x ≠ o → g x = 0#32) :
    Finset.univ.fold IntOp.addi 0#32 g = g o :=
  (Finset.sum_eq_fold (s := Finset.univ) (f := g)).symm.trans (Finset.sum_eq_single o (fun x _ hx => h x hx) (fun hx => absurd (Finset.mem_univ o) hx))

/-- Numbers below the word range, compared as words. -/
theorem ofNat_inj {n : ℕ} (hn : n < 2 ^ 31) (a b : Fin n) : BitVec.ofNat 32 a.val = BitVec.ofNat 32 b.val ↔ a = b := by
  refine ⟨fun h => Fin.ext ?_, fun h => h ▸ rfl⟩
  have h1 := congrArg BitVec.toNat h
  rw [BitVec.toNat_ofNat, BitVec.toNat_ofNat, Nat.mod_eq_of_lt (by omega), Nat.mod_eq_of_lt (by omega)] at h1
  exact h1

/-- A choice by the equality of two numbers. -/
theorem sel_eq {α : Type} {n : ℕ} (hn : n < 2 ^ 31) (a b : Fin n) (x y : α) :
    Scalar.select (IntOp.cmpi .eq (BitVec.ofNat 32 a.val) (BitVec.ofNat 32 b.val)) x y = if b = a then x else y := by
  have e : IntOp.cmpi .eq (BitVec.ofNat 32 a.val) (BitVec.ofNat 32 b.val) = BitVec.ofBool (decide (b = a)) := by
    refine congrArg BitVec.ofBool (Bool.eq_iff_iff.mpr ?_)
    rw [beq_iff_eq, decide_eq_true_iff, ofNat_inj hn, eq_comm]
  rw [e]
  by_cases h : b = a
  · rw [if_pos h, decide_eq_true h]; rfl
  · rw [if_neg h, decide_eq_false h]; rfl

end Cert.Proof
-- ==== Proof.Spec.lean ====
/- The multibox loss's matching and its targets, in plain mathematics: what both programs compute. -/
module

public import proofs.«01_k».proof.Proof.First

@[expose] public section

set_option maxRecDepth 16384

noncomputable section

namespace Cert.Proof

open Idealize.ShloMosaic

/-- The overlap of two boxes given by their corners: the intersection's area over the union's. -/
def iou (a b : Fin 4 → EReal) : EReal :=
  Ideal.div (max (min (a 2) (b 2) - max (a 0) (b 0)) 0 * max (min (a 3) (b 3) - max (a 1) (b 1)) 0)
    ((a 2 - a 0) * (a 3 - a 1) + (b 2 - b 0) * (b 3 - b 1)
      - max (min (a 2) (b 2) - max (a 0) (b 0)) 0 * max (min (a 3) (b 3) - max (a 1) (b 1)) 0)

/-- The corners of a box given by its centre and its extents. -/
def corners (q : Fin 4 → EReal) : Fin 4 → EReal :=
  ![q 0 - q 2 * ((1 / 2 : ℝ) : EReal), q 1 - q 3 * ((1 / 2 : ℝ) : EReal),
    q 0 + q 2 * ((1 / 2 : ℝ) : EReal), q 1 + q 3 * ((1 / 2 : ℝ) : EReal)]

variable {O P : ℕ} [NeZero O] [NeZero P]

/-- The objects that prior `p` is the best prior of. -/
abbrev claimants (M : Fin O → Fin P → EReal) (p : Fin P) : Finset (Fin O) := claims (fun o => first (M o)) p

/-- The object a prior is matched with: the last object it is the best prior of, else the first object it overlaps most. -/
def pickOf (M : Fin O → Fin P → EReal) (p : Fin P) : Fin O :=
  if h : (claimants M p).Nonempty then (claimants M p).max' h else first fun o => M o p

/-- The overlap a prior is judged by: one where an object has it for its best prior. -/
def ovOf (M : Fin O → Fin P → EReal) (p : Fin P) : EReal :=
  if (claimants M p).Nonempty then 1 else M (first fun o => M o p) p

/-- A prior's class: its object's label where the overlap is at least a half, else the background. -/
def clsOf (M : Fin O → Fin P → EReal) (lab : Fin O → BitVec 32) (p : Fin P) : BitVec 32 :=
  if ovOf M p < ((1 / 2 : ℝ) : EReal) then 0#32 else lab (pickOf M p)

/-- Whether a prior is positive, as a number. -/
def posOf (c : BitVec 32) : EReal := if c = 0#32 then 0 else 1

/-- A test for a positive prior, widened and read as a number. -/
theorem pos_word (c : BitVec 32) :
    (FloatOps.sitofp FTy.f32 (BitVec.setWidth 32 (IntOp.cmpi CmpIPredicate.ne c 0#32)) : Ideal .f32) = posOf c := by
  unfold posOf
  by_cases h : c = 0#32
  · subst h
    rw [if_pos rfl]
    exact (congrArg (fun z : ℤ => ((z : ℝ) : EReal)) (show (BitVec.setWidth 32 (IntOp.cmpi CmpIPredicate.ne 0#32 0#32)).toInt = 0 by decide)).trans (by norm_num)
  · rw [if_neg h]
    have e : IntOp.cmpi CmpIPredicate.ne c 0#32 = 1#1 := congrArg BitVec.ofBool (bne_iff_ne.mpr h)
    rw [e]
    exact (congrArg (fun z : ℤ => ((z : ℝ) : EReal)) (show (BitVec.setWidth 32 1#1).toInt = 1 by decide)).trans (by norm_num)

/-- A test for a positive prior, widened. -/
theorem ne_word (c : BitVec 32) :
    BitVec.setWidth 32 (IntOp.cmpi CmpIPredicate.ne c 0#32) = if c = 0#32 then 0#32 else 1#32 := by
  by_cases h : c = 0#32
  · subst h; rfl
  · have e : IntOp.cmpi CmpIPredicate.ne c 0#32 = 1#1 := congrArg BitVec.ofBool (bne_iff_ne.mpr h)
    rw [if_neg h, e]; rfl

/-- The location a prior should predict for a box: offsets in tenths of its extents, scales in fifths of a logarithm. -/
def target (g q : Fin 4 → EReal) : Fin 4 → EReal :=
  ![Ideal.div ((g 0 + g 2) * ((1 / 2 : ℝ) : EReal) - q 0) (q 2 * ((1 / 10 : ℝ) : EReal)),
    Ideal.div ((g 1 + g 3) * ((1 / 2 : ℝ) : EReal) - q 1) (q 3 * ((1 / 10 : ℝ) : EReal)),
    Ideal.log (Ideal.div (g 2 - g 0) (q 2)) * ((5 : ℝ) : EReal),
    Ideal.log (Ideal.div (g 3 - g 1) (q 3)) * ((5 : ℝ) : EReal)]

/-- The distance of a predicted location from the one it should be, coordinate by coordinate. -/
def locErr (l g q : Fin 4 → EReal) (k : Fin 4) : EReal := max (l k - target g q k) (-(l k - target g q k))

end Cert.Proof
-- ==== Proof.Ce.lean ====
/- One prior's cross-entropy: the two spellings of the logarithm of a sum of exponentials agree once the infinite
   differences count as zero, and what is left is a real number, none below zero. -/
module

public import proofs.«01_k».proof.Proof.Spec

@[expose] public section

set_option maxRecDepth 16384

noncomputable section

namespace Cert.Proof

open Idealize.ShloMosaic

/-- A number, zero in an infinity's place. -/
def dropInf (d : EReal) : EReal := if max d (-d) = ⊤ then 0 else d

theorem dropInf_bot : dropInf ⊥ = 0 := if_pos (by simp)
theorem dropInf_top : dropInf ⊤ = 0 := if_pos (by simp)
theorem dropInf_coe (r : ℝ) : dropInf r = r := by
  refine if_neg fun h => ?_
  rw [← EReal.coe_neg] at h
  rcases le_total (r : EReal) ((-r : ℝ) : EReal) with h1 | h1
  · rw [max_eq_right h1] at h; exact EReal.coe_ne_top _ h
  · rw [max_eq_left h1] at h; exact EReal.coe_ne_top _ h

/-- The test for an infinity or no number, and the choice of zero. -/
theorem select_dropInf (d : EReal) :
    Scalar.select (IntOp.ori (BitVec.ofBool (decide (d ≠ d))) (BitVec.ofBool (decide (max d (-d) = ⊤)))) 0 d = dropInf d := by
  unfold dropInf
  rw [decide_eq_false (fun h : d ≠ d => h rfl)]
  by_cases h : max d (-d) = ⊤
  · rw [if_pos h, decide_eq_true h]; rfl
  · rw [if_neg h, decide_eq_false h]; rfl

/-- The loss from its four sums: the hard and the positive priors' cross-entropies over the positive priors' number, and the
    mean of the location errors over four times that number. -/
def lossOf (H C L : EReal) (N : BitVec 32) : EReal :=
  Ideal.div (H + C) (FloatOps.sitofp (F := Ideal) FTy.f32 (IntOp.maxsi N 1#32))
    + dropInf (Ideal.div L (FloatOps.sitofp (F := Ideal) FTy.f32 (IntOp.maxsi (IntOp.muli N 4#32) 1#32)))

variable {n : ℕ} [NeZero n]

/-- The largest of a row. -/
def peak (x : Fin n → EReal) : EReal := Finset.univ.fold max ⊥ x

/-- A row's cross-entropy at a class: the logarithm of the sum of exponentials, taken about the largest entry, less the
    class's entry; zero where that is infinite. -/
def ceOf (x : Fin n → EReal) (k : Fin n) : EReal :=
  dropInf (peak x + Ideal.log (∑ j, Ideal.exp (x j - peak x)) - x k)

theorem le_peak (x : Fin n → EReal) (j : Fin n) : x j ≤ peak x := (le_first x j).trans (fold_max_first x).ge

/-- About a real largest entry the sum of exponentials is real and no less than any of its terms. -/
theorem sum_exp_real (x : Fin n → EReal) (r : ℝ) (hr : peak x = r) :
    ∃ z : ℝ, 0 < z ∧ (∑ j, Ideal.exp (x j - peak x)) = z ∧ ∀ (k : Fin n) (s : ℝ), x k = s → s - r ≤ Real.log z := by
  have he (j : Fin n) : ∃ e : ℝ, 0 ≤ e ∧ Ideal.exp (x j - peak x) = e ∧ ∀ s : ℝ, x j = s → e = Real.exp (s - r) := by
    have hj := le_peak x j
    rw [hr] at hj ⊢
    induction h : x j with
    | bot =>
      refine ⟨0, le_rfl, ?_, fun s hs => absurd hs.symm (EReal.coe_ne_bot s)⟩
      rw [sub_eq_add_neg, EReal.bot_add]; rfl
    | top => rw [h] at hj; exact absurd (top_le_iff.mp hj) (EReal.coe_ne_top r)
    | coe s =>
      refine ⟨Real.exp (s - r), (Real.exp_pos _).le, ?_, fun s' hs => by rw [EReal.coe_eq_coe_iff.mp hs]⟩
      rw [← EReal.coe_sub]; rfl
  choose e h0 h1 h2 using he
  have hle (k : Fin n) : e k ≤ ∑ j, e j := Finset.single_le_sum (fun j _ => h0 j) (Finset.mem_univ k)
  have hk (k : Fin n) (s : ℝ) (hs : x k = s) : s - r ≤ Real.log (∑ j, e j) := by
    have := (h2 k s hs) ▸ hle k
    calc s - r = Real.log (Real.exp (s - r)) := (Real.log_exp _).symm
      _ ≤ _ := Real.log_le_log (Real.exp_pos _) this
  have hf : x (first x) = r := by rw [← hr]; exact (fold_max_first x).symm
  refine ⟨∑ j, e j, ?_, ?_, hk⟩
  · refine lt_of_lt_of_le ?_ (hle (first x))
    rw [h2 _ _ hf]; exact Real.exp_pos _
  · rw [Finset.sum_congr rfl fun j _ => h1 j]
    exact (coe_sum _ _).symm

theorem log_coe (z : ℝ) (h : 0 < z) : Ideal.log (z : EReal) = (Real.log z : ℝ) := if_neg (not_le.mpr h)

/-- A cross-entropy is a real number, none below zero. -/
theorem ceOf_real (x : Fin n → EReal) (k : Fin n) : ∃ y : ℝ, 0 ≤ y ∧ ceOf x k = y := by
  have inf (h : (∑ j, Ideal.exp (x j - peak x)) = 0) : ∃ y : ℝ, 0 ≤ y ∧ ceOf x k = y := by
    refine ⟨0, le_rfl, ?_⟩
    unfold ceOf
    rw [h, show Ideal.log 0 = ⊥ from if_pos le_rfl, EReal.add_bot, sub_eq_add_neg, EReal.bot_add]
    exact dropInf_bot
  induction h : peak x with
  | bot =>
    refine inf (Finset.sum_eq_zero fun j _ => ?_)
    have := h ▸ le_peak x j
    rw [h, le_bot_iff.mp this, sub_eq_add_neg, EReal.bot_add]; rfl
  | top =>
    refine inf (Finset.sum_eq_zero fun j _ => ?_)
    rw [h, sub_eq_add_neg, EReal.neg_top, EReal.add_bot]; rfl
  | coe r =>
    obtain ⟨z, hz, hs, hk⟩ := sum_exp_real x r h
    unfold ceOf
    rw [hs, h, log_coe z hz, ← EReal.coe_add]
    induction hx : x k with
    | bot =>
      refine ⟨0, le_rfl, ?_⟩
      rw [sub_eq_add_neg, EReal.neg_bot, EReal.coe_add_top]; exact dropInf_top
    | top => exact absurd (top_le_iff.mp (hx ▸ h ▸ le_peak x k)) (EReal.coe_ne_top r)
    | coe s =>
      refine ⟨r + Real.log z - s, by linarith [hk k s hx], ?_⟩
      rw [← EReal.coe_sub]; exact dropInf_coe _

/-- The other spelling: about the largest entry where that is finite, else about zero. -/
theorem ceOf_shift (x : Fin n → EReal) (k : Fin n) (s : EReal) (hs : s = if max (peak x) (-peak x) < ⊤ then peak x else 0) :
    dropInf (Ideal.log (∑ j, Ideal.exp (x j - s)) + s - x k) = ceOf x k := by
  unfold ceOf
  induction h : peak x with
  | coe r =>
    have : s = r := by
      rw [hs, h, if_pos]
      refine lt_top_iff_ne_top.mpr fun e => ?_
      have := dropInf_coe r
      unfold dropInf at this
      rw [if_pos e] at this
      have hr : r = 0 := (EReal.coe_eq_coe_iff.mp this).symm
      subst hr
      simp at e
    rw [this, add_comm]
  | bot =>
    have e0 : s = 0 := by rw [hs, h, if_neg (by simp)]
    have hb (j : Fin n) : x j = ⊥ := le_bot_iff.mp (h ▸ le_peak x j)
    have e1 : (∑ j, Ideal.exp (x j - s)) = 0 := Finset.sum_eq_zero fun j _ => by
      rw [hb, sub_eq_add_neg, EReal.bot_add]; rfl
    rw [e1, show Ideal.log 0 = ⊥ from if_pos le_rfl]
    rw [EReal.bot_add, EReal.bot_add, sub_eq_add_neg, EReal.bot_add]
  | top =>
    have e0 : s = 0 := by rw [hs, h, if_neg (by simp)]
    have e1 : (∑ j, Ideal.exp (x j - s)) = ⊤ := by
      refine top_le_iff.mp ?_
      have hp (j : Fin n) (_ : j ∈ Finset.univ) : 0 ≤ Ideal.exp (x j - s) := by
        generalize x j - s = y
        induction y with
        | bot => exact le_rfl
        | top => exact le_top
        | coe r => exact EReal.coe_nonneg.mpr (Real.exp_pos r).le
      refine le_trans ?_ (Finset.single_le_sum hp (Finset.mem_univ (first x)))
      rw [← fold_max_first x, show Finset.univ.fold max ⊥ x = ⊤ from h, e0, sub_zero]; exact le_rfl
    have e2 : (∑ j, Ideal.exp (x j - ⊤)) = 0 := Finset.sum_eq_zero fun j _ => by
      rw [sub_eq_add_neg, EReal.neg_top, EReal.add_bot]; rfl
    rw [e1, e2, e0, show Ideal.log 0 = ⊥ from if_pos le_rfl, show Ideal.log ⊤ = ⊤ from rfl, add_zero, EReal.add_bot,
      sub_eq_add_neg ⊥, EReal.bot_add, dropInf_bot]
    induction x k with
    | bot => rw [sub_eq_add_neg, EReal.neg_bot]; exact dropInf_top
    | top => rw [sub_eq_add_neg, EReal.neg_top, EReal.add_bot]; exact dropInf_bot
    | coe r => rw [EReal.top_sub_coe]; exact dropInf_top

end Cert.Proof
-- ==== Proof.Loss.lean ====
/- The multibox loss of a batch, as a function of the five arguments' entries. -/
module

public import proofs.«01_k».proof.Proof.Ce

@[expose] public section

set_option maxRecDepth 16384

noncomputable section

namespace Cert.Proof

open Idealize.ShloMosaic

variable (A0 : Fin 64 → Fin 8732 → Fin 4 → EReal) (A1 : Fin 64 → Fin 8732 → Fin 81 → EReal)
  (A2 : Fin 64 → Fin 16 → Fin 4 → EReal) (A3 : Fin 64 → Fin 16 → BitVec 32) (A4 : Fin 8732 → Fin 4 → EReal)

/-- The overlaps of an image's boxes with the priors. -/
def ovs (b : Fin 64) : Fin 16 → Fin 8732 → EReal := fun o p => iou (A2 b o) (corners (A4 p))

/-- A prior's class. -/
def cls (b : Fin 64) (p : Fin 8732) : BitVec 32 := clsOf (ovs A2 A4 b) (A3 b) p

/-- A prior's class, as a place among the logits. -/
def cidx (b : Fin 64) (p : Fin 8732) : Fin 81 := ⟨(cls A2 A3 A4 b p).toNat % 81, Nat.mod_lt _ (by norm_num)⟩

/-- A prior's cross-entropy. -/
def ces (b : Fin 64) (p : Fin 8732) : EReal := ceOf (A1 b p) (cidx A2 A3 A4 b p)

/-- The same, zero at the positive priors. -/
def negs (b : Fin 64) (p : Fin 8732) : EReal := if cls A2 A3 A4 b p = 0#32 then ces A1 A2 A3 A4 b p else 0

/-- The number of an image's positive priors. -/
def cnt (b : Fin 64) : BitVec 32 := ∑ p : Fin 8732, if cls A2 A3 A4 b p = 0#32 then 0#32 else 1#32

/-- A prior's location error in one coordinate. -/
def errs (b : Fin 64) (p : Fin 8732) : Fin 4 → EReal := locErr (A0 b p) (A2 b (pickOf (ovs A2 A4 b) p)) (A4 p)

/-- The sum of an image's positive priors' location errors. -/
def locs (b : Fin 64) : EReal :=
  ∑ p : Fin 8732, (errs A0 A2 A4 b p 0 + errs A0 A2 A4 b p 1 + errs A0 A2 A4 b p 2 + errs A0 A2 A4 b p 3)
    * posOf (cls A2 A3 A4 b p)

/-- The sum of an image's positive priors' cross-entropies. -/
def cepos (b : Fin 64) : EReal := ∑ p : Fin 8732, ces A1 A2 A3 A4 b p * posOf (cls A2 A3 A4 b p)

/-- The loss, `σ b` putting image `b`'s background cross-entropies in falling order. -/
def loss (σ : Fin 64 → Equiv.Perm (Fin 8732)) : EReal :=
  lossOf (∑ b, hardRow (negs A1 A2 A3 A4 b) (negs A1 A2 A3 A4 b ∘ σ b) (cnt A2 A3 A4 b))
    (∑ b, cepos A1 A2 A3 A4 b) (∑ b, locs A0 A2 A3 A4 b) (∑ b, cnt A2 A3 A4 b)

/-- The labels name classes. -/
def Labelled : Prop := ∀ b o, (A3 b o).toNat < 81

theorem cls_lt (h : Labelled A3) (b : Fin 64) (p : Fin 8732) : (cls A2 A3 A4 b p).toNat < 81 := by
  unfold cls clsOf
  split
  · decide
  · exact h _ _

theorem cls_eq (h : Labelled A3) (b : Fin 64) (p : Fin 8732) :
    cls A2 A3 A4 b p = BitVec.ofNat 32 (cidx A2 A3 A4 b p).val := by
  have := cls_lt A2 A3 A4 h b p
  apply BitVec.eq_of_toNat_eq
  rw [BitVec.toNat_ofNat]
  show _ = ((cls A2 A3 A4 b p).toNat % 81) % 2 ^ 32
  rw [Nat.mod_eq_of_lt this, Nat.mod_eq_of_lt (by omega)]

theorem negs_real (b : Fin 64) (p : Fin 8732) : ∃ y : ℝ, 0 ≤ y ∧ negs A1 A2 A3 A4 b p = y := by
  unfold negs
  split
  · exact ceOf_real _ _
  · exact ⟨0, le_rfl, rfl⟩

/-- A count of positive priors is at most the priors' number. -/
theorem cnt_eq (b : Fin 64) : ∃ N : ℕ, N ≤ 8732 ∧ cnt A2 A3 A4 b = BitVec.ofNat 32 N := by
  have h (s : Finset (Fin 8732)) : ∃ N : ℕ, N ≤ s.card ∧
      (∑ p ∈ s, if cls A2 A3 A4 b p = 0#32 then 0#32 else 1#32) = BitVec.ofNat 32 N := by
    induction s using Finset.cons_induction with
    | empty => exact ⟨0, le_rfl, rfl⟩
    | cons a s ha ih =>
      obtain ⟨N, hN, e⟩ := ih
      rw [Finset.sum_cons, Finset.card_cons, e]
      split
      · exact ⟨N, by omega, zero_add _⟩
      · exact ⟨1 + N, by omega, (BitVec.ofNat_add 1 N).symm⟩
  obtain ⟨N, hN, e⟩ := h Finset.univ
  exact ⟨N, by simpa using hN, e⟩

end Cert.Proof
-- ==== Proof.KRun.lean ====
/- The run of the idealized kernel: where it ends, its result buffer holds what the host lines, the three kernels and the
   host lines after them leave there, and its arguments are as launched. -/
module

public import proofs.«01_k».proof.Proof.Gen.KernelIdeal.Frame

@[expose] public section

set_option maxRecDepth 16384

noncomputable section

namespace Cert.Proof

open Idealize.ShloMosaic Cert.KernelIdeal Cert.KernelIdeal.Gen
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- Every run of the program ends, with every buffer of the TensorCore at what the fold through the program's stretches
    says of it. -/
theorem kernel_run : θ_run defs (onTc (τ := τ) (main (F := F))) ⟨m, fun _ => 0, ρ⟩ (fun r => ∀ c : Dev nD,
      ∀ b ∈ Pipeline.ucRefs τ sig, r.2.mem (((c : Thread nD τ)).1, b) = W11 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun _ h _ => h)

/-- The result and the arguments at the end of a run. -/
theorem kernel_value : θ_run defs (onTc (τ := τ) (main (F := F))) ⟨m, fun _ => 0, ρ⟩ (fun r => ∀ c : Dev nD,
      r.2.mem ((c.tc : Thread nD τ).loc main_v38) = W11 m ρ c (Proc.devRef .tc main_v38)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  refine (θ_run defs _ _).mono (fun r h c => ?_) (kernel_run m ρ)
  have hb (b : Ref sig .tc) (hs : ¬ (Proc.devRef .tc b : DevRef τ sig).isScoped) := h c _ (mem_uc b hs)
  exact ⟨hb main_v38 (by decide), (hb main_arg0 (by decide)).trans (W11_main_arg0 m ρ c),
    (hb main_arg1 (by decide)).trans (W11_main_arg1 m ρ c), (hb main_arg2 (by decide)).trans (W11_main_arg2 m ρ c),
    (hb main_arg3 (by decide)).trans (W11_main_arg3 m ρ c), (hb main_arg4 (by decide)).trans (W11_main_arg4 m ρ c)⟩

end Cert.Proof
-- ==== Proof.KArr.lean ====
/- What the matching kernel and the cross-entropy kernel leave in their result arrays: every image's row is the body's
   value of that image's blocks. -/
module

public import proofs.«01_k».proof.Proof.Gen.KernelIdeal.Frame
public import Idealize.ShloMosaic.Lib.Pipeline.ValueKit
public import Idealize.ShloMosaic.Lib.Pipeline.ReadBack
public import Idealize.ShloMosaic.Lib.Pointwise
public import Idealize.ShloMosaic.Lib.Exec

@[expose] public section

set_option maxRecDepth 16384

noncomputable section

namespace Cert.Proof

open Idealize.ShloMosaic Idealize.ShloMosaic.TcCoe Idealize.ShloMosaic.Tactic
open Cert.KernelIdeal Cert.KernelIdeal.Gen

variable {F : FTy → Type} [FloatOps F] [Named F]
variable (V : (c : Dev nD) → (b : Ref sig .tc) → Buf (Elt F) ((c : Thread nD τ).loc b)) (c : Dev nD)

/-- Image `b`'s block of a stack of blocks. -/
def slab {α : Type} {N A B : ℕ} (x : (⟨3, ![N, A, B]⟩ : Shape).Idx → α) (b : Fin N) : (⟨3, ![1, A, B]⟩ : Shape).Idx → α :=
  fun y => x (ix3 b (y 1) (y 2))

theorem idx1_0 : ∀ t, win1_0.index t = ![t.val, 0, 0] := by decide +kernel
theorem idx1_1 : ∀ t, win1_1.index t = ![t.val, 0, 0] := by decide +kernel
theorem idx1_2 : ∀ t, win1_2.index t = ![t.val, 0, 0] := by decide +kernel
theorem idx1_3 : ∀ t, win1_3.index t = ![t.val, 0, 0] := by decide +kernel

theorem blk1_0 (t : Fin cfg1.N) : iblk1 V c 0 t = slab (V c main_arg1) t := by
  funext y; unfold slab; blk_ext [iblk1, idx1_0 t]
theorem blk1_1 (t : Fin cfg1.N) : iblk1 V c 1 t = slab (V c main_v16) t := by
  funext y; unfold slab; blk_ext [iblk1, idx1_1 t]

/-- The sum of the positive priors' cross-entropies of each image. -/
theorem arr1_2 : (dat1 V c).arrAt 2 cfg1.N
    = fun i => k1_pay5 (slab (V c main_arg1) (i 0)) (slab (V c main_v16) (i 0)) (ix3 0 (i 1) (i 2)) := by
  refine (dat1 V c).arrAt_eq_of_covers 2 _ (by decide +kernel) fun t hf y => ?_
  have e : (((cfg1.win 2).blk t).view.emb y) = ix3 t (y 1) (y 2) := by blk_ext [idx1_2 t]
  have e' : y = ix3 0 (y 1) (y 2) := by blk_ext []
  rw [e]
  blk_simp
  rw [after1_2, blk1_0, blk1_1]
  frame_out
  exact congrArg _ e'

/-- The cross-entropies of the background priors. -/
theorem arr1_3 : (dat1 V c).arrAt 3 cfg1.N
    = fun i => k1_pay1 (k1_pay6 (slab (V c main_arg1) (i 0)) (slab (V c main_v16) (i 0))) (ix3 0 (i 1) (i 2)) := by
  refine (dat1 V c).arrAt_eq_of_covers 3 _ (by decide +kernel) fun t hf y => ?_
  have e : (((cfg1.win 3).blk t).view.emb y) = ix3 t (y 1) (y 2) := by blk_ext [idx1_3 t]
  have e' : y = ix3 0 (y 1) (y 2) := by blk_ext []
  rw [e]
  blk_simp
  rw [after1_3, blk1_0, blk1_1]
  frame_out
  exact congrArg _ e'

theorem idx0_0 : ∀ t, win0_0.index t = ![t.val, 0, 0] := by decide +kernel
theorem idx0_1 : ∀ t, win0_1.index t = ![t.val, 0, 0] := by decide +kernel
theorem idx0_4 : ∀ t, win0_4.index t = ![t.val, 0, 0] := by decide +kernel
theorem idx0_5 : ∀ t, win0_5.index t = ![t.val, 0, 0] := by decide +kernel
theorem idx0_6 : ∀ t, win0_6.index t = ![t.val, 0, 0] := by decide +kernel
theorem idx0_7 : ∀ t, win0_7.index t = ![t.val, 0, 0] := by decide +kernel
theorem idx0_2 : ∀ t, win0_2.index t = ![0, 0] := by decide +kernel
theorem idx0_3 : ∀ t, win0_3.index t = ![0, 0] := by decide +kernel

theorem blk0_0 (t : Fin cfg0.N) : iblk0 V c 0 t = slab (V c main_arg2) t := by
  funext y; unfold slab; blk_ext [iblk0, idx0_0 t]
theorem blk0_1 (t : Fin cfg0.N) : iblk0 V c 1 t = slab (V c main_v14) t := by
  funext y; unfold slab; blk_ext [iblk0, idx0_1 t]
theorem blk0_4 (t : Fin cfg0.N) : iblk0 V c 4 t = slab (V c main_v13) t := by
  funext y; unfold slab; blk_ext [iblk0, idx0_4 t]
theorem blk0_2 (t : Fin cfg0.N) : iblk0 V c 2 t = V c main_v11 := by
  funext y; blk_ext [iblk0, idx0_2 t]
theorem blk0_3 (t : Fin cfg0.N) : iblk0 V c 3 t = V c main_v12 := by
  funext y; blk_ext [iblk0, idx0_3 t]

/-- The priors' classes. -/
theorem arr0_5 : (dat0 V c).arrAt 5 cfg0.N
    = fun i => out0_5 (slab (V c main_arg2) (i 0)) (slab (V c main_v14) (i 0)) (V c main_v11) (V c main_v12) (slab (V c main_v13) (i 0)) (ix3 0 (i 1) (i 2)) := by
  refine (dat0 V c).arrAt_eq_of_covers 5 _ (by decide +kernel) fun t hf y => ?_
  have e : (((cfg0.win 5).blk t).view.emb y) = ix3 t (y 1) (y 2) := by blk_ext [idx0_5 t]
  have e' : y = ix3 0 (y 1) (y 2) := by blk_ext []
  rw [e]
  blk_simp
  rw [after0_5, blk0_0, blk0_1, blk0_2, blk0_3, blk0_4]
  exact congrArg _ e'

/-- The sums of the positive priors' location errors. -/
theorem arr0_6 : (dat0 V c).arrAt 6 cfg0.N
    = fun i => out0_6 (slab (V c main_arg2) (i 0)) (slab (V c main_v14) (i 0)) (V c main_v11) (V c main_v12) (slab (V c main_v13) (i 0)) (ix3 0 (i 1) (i 2)) := by
  refine (dat0 V c).arrAt_eq_of_covers 6 _ (by decide +kernel) fun t hf y => ?_
  have e : (((cfg0.win 6).blk t).view.emb y) = ix3 t (y 1) (y 2) := by blk_ext [idx0_6 t]
  have e' : y = ix3 0 (y 1) (y 2) := by blk_ext []
  rw [e]
  blk_simp
  rw [after0_6, blk0_0, blk0_1, blk0_2, blk0_3, blk0_4]
  exact congrArg _ e'

/-- The counts of the positive priors. -/
theorem arr0_7 : (dat0 V c).arrAt 7 cfg0.N
    = fun i => out0_7 (slab (V c main_arg2) (i 0)) (slab (V c main_v14) (i 0)) (V c main_v11) (V c main_v12) (slab (V c main_v13) (i 0)) (ix3 0 (i 1) (i 2)) := by
  refine (dat0 V c).arrAt_eq_of_covers 7 _ (by decide +kernel) fun t hf y => ?_
  have e : (((cfg0.win 7).blk t).view.emb y) = ix3 t (y 1) (y 2) := by blk_ext [idx0_7 t]
  have e' : y = ix3 0 (y 1) (y 2) := by blk_ext []
  rw [e]
  blk_simp
  rw [after0_7, blk0_0, blk0_1, blk0_2, blk0_3, blk0_4]
  exact congrArg _ e'

theorem idx2_0 : ∀ t, win2_0.index t = ![0, 0] := by decide +kernel
theorem idx2_1 : ∀ t, win2_1.index t = ![0, 0] := by decide +kernel
theorem idx2_2 : ∀ t, win2_2.index t = ![0, 0] := by decide +kernel
theorem blk2_0 (t : Fin cfg2.N) : iblk2 V c 0 t = V c main_v18 := by
  funext y; blk_ext [iblk2, idx2_0 t]
theorem blk2_1 (t : Fin cfg2.N) : iblk2 V c 1 t = V c main_v19 := by
  funext y; blk_ext [iblk2, idx2_1 t]

/-- The sums over the hard negatives. -/
theorem arr2_2 : (dat2 V c).arrAt 2 cfg2.N
    = k2_pay9 (V c main_v18) (V c main_v19) ((List.finRange 40).foldl (fun acc _ => (k2_pay7 (V c main_v18) (V c main_v19) acc.1 acc.2, k2_pay8 (V c main_v18) (V c main_v19) acc.1 acc.2)) (k2_pay4, k2_pay3 (V c main_v18))).2 := by
  refine (dat2 V c).arrAt_eq_of_covers 2 _ (by decide +kernel) fun t hf y => ?_
  have e : (((cfg2.win 2).blk t).view.emb y) = y := by blk_ext [idx2_2 t]
  rw [e]
  blk_simp
  rw [after2_2]
  unfold outsAt2
  rw [blk2_0, blk2_1]
  frame_out
  simp only [read_unread_whole, Scf.fold_eq]
  rfl

end Cert.Proof
-- ==== Proof.KMatch.lean ====
/- The matching kernel's values: each prior's class, the positive priors' count and their location errors' sum. -/
module

public import proofs.«01_k».proof.Proof.Spec
public import proofs.«01_k».proof.Proof.Gen.KernelIdeal.Frame
public import Idealize.ShloMosaic.Lib.Pipeline.ValueKit

@[expose] public section

set_option maxRecDepth 16384

noncomputable section

namespace Cert.Proof

open Idealize.ShloMosaic Cert.KernelIdeal Cert.KernelIdeal.Gen

section Row

variable (v36 : Vec Ideal S16x8732 .f32) (v42 : Vec Ideal S1x8732 .f32) (v43 : Vec Ideal S16x8732 .f32)

/-- The table of overlaps, by its indices. -/
def tab : Fin 16 → Fin 8732 → EReal := fun o p => k0_pay17 (F := Ideal) v36 v42 v43 (ix2 o p)

/-- The largest overlap of a prior. -/
theorem q18 (p : Fin 8732) : k0_pay18 (F := Ideal) v36 v42 v43 (ix2 0 p)
    = tab v36 v42 v43 (first fun o => tab v36 v42 v43 o p) p := by
  rw [← fold_max_first fun o => tab v36 v42 v43 o p]
  pointwise [k0_pay18]
  rw [lit_bot]
  rfl

/-- The number of the object a prior is forced to, or minus one. -/
theorem q19 (p : Fin 8732) : k0_pay19 (F := Ideal) v36 v42 v43 (ix2 0 p)
    = if h : (claimants (tab v36 v42 v43) p).Nonempty then BitVec.ofNat 32 ((claimants (tab v36 v42 v43) p).max' h).val
      else 4294967295#32 := by
  have hb (o : Fin 16) : Finset.univ.fold IntOp.minsi 2147483647#32 (fun q : Fin 8732 =>
        if tab v36 v42 v43 o q = Finset.univ.fold max (Ideal.ofBits FTy.f32 4286578688#32) (fun r => tab v36 v42 v43 o r)
        then BitVec.ofNat 32 q.val else 8732#32) = BitVec.ofNat 32 (first (tab v36 v42 v43 o)).val := by
    refine fold_minsi_first (by norm_num) _ _ 8732#32 (by decide) fun q => ?_
    rw [lit_bot]
    exact congrArg (fun e => if tab v36 v42 v43 o q = e then BitVec.ofNat 32 q.val else 8732#32) (fold_max_first _)
  have hg (o : Fin 16) : Scalar.select (IntOp.cmpi .eq (BitVec.ofNat 32 p.val)
        (Finset.univ.fold IntOp.minsi 2147483647#32 (fun q : Fin 8732 =>
        if tab v36 v42 v43 o q = Finset.univ.fold max (Ideal.ofBits FTy.f32 4286578688#32) (fun r => tab v36 v42 v43 o r)
        then BitVec.ofNat 32 q.val else 8732#32))) (BitVec.ofNat 32 o.val) 4294967295#32
      = if first (tab v36 v42 v43 o) = p then BitVec.ofNat 32 o.val else 4294967295#32 := by
    rw [hb]
    exact sel_eq (by norm_num) _ _ _ _
  split
  next h =>
    rw [← fold_maxsi_some (by norm_num) _ p _ hg h]
    pointwise [k0_pay19]
    rfl
  next h =>
    rw [← fold_maxsi_none _ p _ hg h]
    pointwise [k0_pay19]
    rfl

/-- Whether a prior is forced. -/
theorem q20 (p : Fin 8732) : k0_pay20 (F := Ideal) v36 v42 v43 (ix2 0 p)
    = BitVec.ofBool (decide (claimants (tab v36 v42 v43) p).Nonempty) := by
  have e : k0_pay20 (F := Ideal) v36 v42 v43 (ix2 0 p) = IntOp.cmpi .sge (k0_pay19 (F := Ideal) v36 v42 v43 (ix2 0 p)) 0#32 := by
    pointwise [k0_pay20]
  rw [e, q19]
  by_cases h : (claimants (tab v36 v42 v43) p).Nonempty
  · rw [dif_pos h, decide_eq_true h]
    refine congrArg BitVec.ofBool ?_
    have := toInt_small ((claimants (tab v36 v42 v43) p).max' h).val (by have := ((claimants (tab v36 v42 v43) p).max' h).isLt; omega)
    rw [BitVec.sle_eq_decide]
    exact decide_eq_true (by
      show (0#32).toInt ≤ (BitVec.ofNat 32 _).toInt
      rw [this]
      exact Int.natCast_nonneg _)
  · rw [dif_neg h, decide_eq_false h]
    rfl

/-- Whether an object is the one a prior is matched with. -/
theorem q21 (o : Fin 16) (p : Fin 8732) : k0_pay21 (F := Ideal) v36 v42 v43 (ix2 o p)
    = BitVec.ofBool (decide (o = pickOf (tab v36 v42 v43) p)) := by
  have hm : Finset.univ.fold IntOp.minsi 2147483647#32 (fun x : Fin 16 =>
        if tab v36 v42 v43 x p = k0_pay18 (F := Ideal) v36 v42 v43 (ix2 0 p) then BitVec.ofNat 32 x.val else 16#32)
      = BitVec.ofNat 32 (first fun o => tab v36 v42 v43 o p).val :=
    fold_minsi_first (by norm_num) _ _ 16#32 (by decide) fun x => by rw [q18]
  have e : k0_pay21 (F := Ideal) v36 v42 v43 (ix2 o p) = IntOp.cmpi .eq (BitVec.ofNat 32 o.val)
      (Scalar.select (k0_pay20 (F := Ideal) v36 v42 v43 (ix2 0 p)) (k0_pay19 (F := Ideal) v36 v42 v43 (ix2 0 p))
        (Finset.univ.fold IntOp.minsi 2147483647#32 (fun x : Fin 16 =>
        if tab v36 v42 v43 x p = k0_pay18 (F := Ideal) v36 v42 v43 (ix2 0 p) then BitVec.ofNat 32 x.val else 16#32))) := by
    pointwise [k0_pay21]
    rfl
  have e2 : Scalar.select (k0_pay20 (F := Ideal) v36 v42 v43 (ix2 0 p)) (k0_pay19 (F := Ideal) v36 v42 v43 (ix2 0 p))
      (BitVec.ofNat 32 (first fun o => tab v36 v42 v43 o p).val) = BitVec.ofNat 32 (pickOf (tab v36 v42 v43) p).val := by
    rw [q20, q19]
    unfold pickOf
    by_cases h : (claimants (tab v36 v42 v43) p).Nonempty
    · rw [dif_pos h, dif_pos h, decide_eq_true h]; rfl
    · rw [dif_neg h, dif_neg h, decide_eq_false h]; rfl
  rw [e, hm, e2]
  refine congrArg BitVec.ofBool (Bool.eq_iff_iff.mpr ?_)
  rw [beq_iff_eq, decide_eq_true_iff, ofNat_inj (by norm_num)]

/-- A prior's class. -/
theorem q22 (v3 : Vec Ideal S16x1 .i32) (p : Fin 8732) : k0_pay22 (F := Ideal) v3 v36 v42 v43 (ix2 0 p)
    = clsOf (tab v36 v42 v43) (fun o => v3 (ix2 o 0)) p := by
  have e : k0_pay22 (F := Ideal) v3 v36 v42 v43 (ix2 0 p)
      = if Scalar.select (k0_pay20 (F := Ideal) v36 v42 v43 (ix2 0 p)) 1 (k0_pay18 (F := Ideal) v36 v42 v43 (ix2 0 p))
          < Ideal.ofBits FTy.f32 1056964608#32 then 0#32
        else Finset.univ.fold IntOp.addi 0#32
          (fun x : Fin 16 => Scalar.select (k0_pay21 (F := Ideal) v36 v42 v43 (ix2 x p)) (v3 (ix2 x 0)) 0#32) := by
    pointwise [k0_pay22]
  have e1 : Scalar.select (k0_pay20 (F := Ideal) v36 v42 v43 (ix2 0 p)) 1 (k0_pay18 (F := Ideal) v36 v42 v43 (ix2 0 p))
      = ovOf (tab v36 v42 v43) p := by
    rw [q20, q18]
    unfold ovOf
    by_cases h : (claimants (tab v36 v42 v43) p).Nonempty
    · rw [if_pos h, decide_eq_true h]; rfl
    · rw [if_neg h, decide_eq_false h]; rfl
  have e2 := fold_addi_pick
    (fun x : Fin 16 => Scalar.select (k0_pay21 (F := Ideal) v36 v42 v43 (ix2 x p)) (v3 (ix2 x 0)) 0#32)
    (pickOf (tab v36 v42 v43) p) fun x hx => by rw [q21, decide_eq_false hx]; rfl
  rw [e, e1, e2, q21, decide_eq_true rfl, lit_half]
  rfl

/-- A sum over the objects of which only the picked one counts. -/
theorem sum_pick (g : Fin 16 → EReal) (p : Fin 8732) :
    ∑ x : Fin 16, Scalar.select (k0_pay21 (F := Ideal) v36 v42 v43 (ix2 x p)) (g x) 0 = g (pickOf (tab v36 v42 v43) p) := by
  refine (Finset.sum_eq_single (pickOf (tab v36 v42 v43) p) (fun x _ hx => ?_) fun h => absurd (Finset.mem_univ _) h).trans ?_
  · rw [q21, decide_eq_false hx]; rfl
  · rw [q21, decide_eq_true rfl]; rfl

end Row

/-- The overlaps are those of the boxes with the priors' corners. -/
theorem tab_iou (v0 : Vec Ideal S1x16x4 .f32) (v4 : Vec Ideal S4x8732 .f32) :
    tab (k0_pay14 (F := Ideal) v0 v4) (k0_pay15 v4) (k0_pay16 v0)
      = fun o p => iou (fun k => v0 (ix3 0 o k)) (fun k => v4 (ix2 k p)) := by
  funext o p
  unfold tab iou
  pointwise [k0_pay17, k0_pay14, k0_pay15, k0_pay16, k0_pay6, k0_pay7, k0_pay8, k0_pay9, k0_pay10, k0_pay11, k0_pay12, k0_pay13, k0_pay1, k0_pay3]

/-- Whether a prior is positive, as the number the kernel makes of it. -/
theorem q24 (v : Vec Ideal S1x8732 .i32) (p : Fin 8732) : k0_pay24 (F := Ideal) v (ix2 0 p) = posOf (v (ix2 0 p)) := by
  have e : k0_pay24 (F := Ideal) v (ix2 0 p)
      = FloatOps.sitofp FTy.f32 (BitVec.setWidth 32 (IntOp.cmpi CmpIPredicate.ne (v (ix2 0 p)) 0#32)) := by
    pointwise [k0_pay24]
  rw [e]
  exact pos_word _

/-- The sum of the positive priors' location errors. -/
theorem q30 (v0 : Vec Ideal S1x16x4 .f32) (v7 v9 : Vec Ideal S4x8732 .f32) (v36 : Vec Ideal S16x8732 .f32)
    (v42 : Vec Ideal S1x8732 .f32) (v43 : Vec Ideal S16x8732 .f32) (v88 : Vec Ideal S1x8732 .i32) :
    k0_pay30 (F := Ideal) v7 v9 (k0_pay21 (F := Ideal) v36 v42 v43) (k0_pay24 (F := Ideal) v88)
      (k0_pay26 (k0_pay7 v0) (k0_pay9 v0)) (k0_pay27 (k0_pay6 v0) (k0_pay8 v0) (k0_pay21 (F := Ideal) v36 v42 v43))
      (k0_pay28 (k0_pay7 v0) (k0_pay9 v0) (k0_pay21 (F := Ideal) v36 v42 v43))
      (k0_pay29 (k0_pay6 v0) (k0_pay8 v0) (k0_pay21 (F := Ideal) v36 v42 v43)) (Scalar.ofBits .f32 0x00000000#32) (ix3 0 0 0)
      = ∑ p : Fin 8732, ((((fun e : Fin 4 → EReal => e 0 + e 1 + e 2 + e 3)
          (locErr (fun k => v9 (ix2 k p)) (fun k => v0 (ix3 0 (pickOf (tab v36 v42 v43) p) k)) (fun k => v7 (ix2 k p))))
          * posOf (v88 (ix2 0 p)))) := by
  have ht : (Named.named κ "tenth" 1036831949#32 : Ideal .f32) = ((1 / 10 : ℝ) : EReal) :=
    IdealRules.named_const.ideal_named_scalar _ _ _ _ rfl
  have h27 (p : Fin 8732) : k0_pay27 (F := Ideal) (k0_pay6 v0) (k0_pay8 v0) (k0_pay21 (F := Ideal) v36 v42 v43) (ix2 0 p)
      = (v0 (ix3 0 (pickOf (tab v36 v42 v43) p) 0) + v0 (ix3 0 (pickOf (tab v36 v42 v43) p) 2)) * ((1 / 2 : ℝ) : EReal) := by
    rw [← lit_half]
    refine Eq.trans ?_ (sum_pick v36 v42 v43 (fun x => (v0 (ix3 0 x 0) + v0 (ix3 0 x 2)) * Ideal.ofBits .f32 1056964608#32) p)
    pointwise [k0_pay27, k0_pay6, k0_pay8, k0_pay1]
  have h28 (p : Fin 8732) : k0_pay28 (F := Ideal) (k0_pay7 v0) (k0_pay9 v0) (k0_pay21 (F := Ideal) v36 v42 v43) (ix2 0 p)
      = (v0 (ix3 0 (pickOf (tab v36 v42 v43) p) 1) + v0 (ix3 0 (pickOf (tab v36 v42 v43) p) 3)) * ((1 / 2 : ℝ) : EReal) := by
    rw [← lit_half]
    refine Eq.trans ?_ (sum_pick v36 v42 v43 (fun x => (v0 (ix3 0 x 1) + v0 (ix3 0 x 3)) * Ideal.ofBits .f32 1056964608#32) p)
    pointwise [k0_pay28, k0_pay7, k0_pay9, k0_pay1]
  have h29 (p : Fin 8732) : k0_pay29 (F := Ideal) (k0_pay6 v0) (k0_pay8 v0) (k0_pay21 (F := Ideal) v36 v42 v43) (ix2 0 p)
      = v0 (ix3 0 (pickOf (tab v36 v42 v43) p) 2) - v0 (ix3 0 (pickOf (tab v36 v42 v43) p) 0) := by
    refine Eq.trans ?_ (sum_pick v36 v42 v43 (fun x => v0 (ix3 0 x 2) - v0 (ix3 0 x 0)) p)
    pointwise [k0_pay29, k0_pay6, k0_pay8, k0_pay1]
  have h26 (p : Fin 8732) : ∑ x : Fin 16, Scalar.select (k0_pay21 (F := Ideal) v36 v42 v43 (ix2 x p))
        (k0_pay26 (F := Ideal) (k0_pay7 v0) (k0_pay9 v0) (ix2 x 0)) (Scalar.ofBits (F := Ideal) .f32 0x00000000#32)
      = v0 (ix3 0 (pickOf (tab v36 v42 v43) p) 3) - v0 (ix3 0 (pickOf (tab v36 v42 v43) p) 1) := by
    rw [show (Scalar.ofBits (F := Ideal) .f32 0x00000000#32) = (0 : EReal) from lit_zero]
    refine Eq.trans (Finset.sum_congr rfl fun x _ => ?_) (sum_pick v36 v42 v43 (fun x => v0 (ix3 0 x 3) - v0 (ix3 0 x 1)) p)
    refine congrArg (fun z => Scalar.select _ z _) ?_
    pointwise [k0_pay26, k0_pay7, k0_pay9, k0_pay1]
  generalize (Scalar.ofBits (F := Ideal) .f32 0x00000000#32) = z0 at h26 ⊢
  generalize k0_pay26 (F := Ideal) (k0_pay7 v0) (k0_pay9 v0) = b26 at h26 ⊢
  generalize k0_pay27 (F := Ideal) (k0_pay6 v0) (k0_pay8 v0) (k0_pay21 (F := Ideal) v36 v42 v43) = b27 at h27 ⊢
  generalize k0_pay28 (F := Ideal) (k0_pay7 v0) (k0_pay9 v0) (k0_pay21 (F := Ideal) v36 v42 v43) = b28 at h28 ⊢
  generalize k0_pay29 (F := Ideal) (k0_pay6 v0) (k0_pay8 v0) (k0_pay21 (F := Ideal) v36 v42 v43) = b29 at h29 ⊢
  have h24 (p : Fin 8732) : k0_pay24 (F := Ideal) v88 (ix2 0 p) = posOf (v88 (ix2 0 p)) := q24 v88 p
  generalize k0_pay24 (F := Ideal) v88 = b24 at h24 ⊢
  generalize k0_pay21 (F := Ideal) v36 v42 v43 = b21 at h26 ⊢
  refine Eq.trans (b := ∑ x : Fin 8732,
      (max (v9 (ix2 0 x) - Ideal.div (b27 (ix2 0 x) - v7 (ix2 0 x)) (v7 (ix2 2 x) * (Named.named κ "tenth" 1036831949#32 : Ideal .f32)))
          (-(v9 (ix2 0 x) - Ideal.div (b27 (ix2 0 x) - v7 (ix2 0 x)) (v7 (ix2 2 x) * (Named.named κ "tenth" 1036831949#32 : Ideal .f32))))
        + max (v9 (ix2 1 x) - Ideal.div (b28 (ix2 0 x) - v7 (ix2 1 x)) (v7 (ix2 3 x) * (Named.named κ "tenth" 1036831949#32 : Ideal .f32)))
          (-(v9 (ix2 1 x) - Ideal.div (b28 (ix2 0 x) - v7 (ix2 1 x)) (v7 (ix2 3 x) * (Named.named κ "tenth" 1036831949#32 : Ideal .f32))))
        + max (v9 (ix2 2 x) - Ideal.log (Ideal.div (b29 (ix2 0 x)) (v7 (ix2 2 x))) * Ideal.ofBits FTy.f32 1084227584#32)
          (-(v9 (ix2 2 x) - Ideal.log (Ideal.div (b29 (ix2 0 x)) (v7 (ix2 2 x))) * Ideal.ofBits FTy.f32 1084227584#32))
        + max (v9 (ix2 3 x) - Ideal.log (Ideal.div (∑ y, Scalar.select (b21 (ix2 y x)) (b26 (ix2 y 0)) z0) (v7 (ix2 3 x))) * Ideal.ofBits FTy.f32 1084227584#32)
          (-(v9 (ix2 3 x) - Ideal.log (Ideal.div (∑ y, Scalar.select (b21 (ix2 y x)) (b26 (ix2 y 0)) z0) (v7 (ix2 3 x))) * Ideal.ofBits FTy.f32 1084227584#32)))
        * b24 (ix2 0 x)) ?_ ?_
  · pointwise [k0_pay30]
    rfl
  · refine Finset.sum_congr rfl fun p _ => ?_
    rw [h24, h26, h27, h28, h29, ht, lit_five]
    rfl

section Out

variable (x0 : Vec Ideal S1x16x4 .f32) (x1 : Vec Ideal S1x16x1 .i32) (x2 x3 : Vec Ideal S4x8732 .f32)
  (x4 : Vec Ideal S1x4x8732 .f32)

/-- The overlaps of one image's boxes with the priors. -/
def ious : Fin 16 → Fin 8732 → EReal := fun o p => iou (fun k => x0 (ix3 0 o k)) (fun k => x2 (ix2 k p))

/-- The classes of one image's priors. -/
def classes (p : Fin 8732) : BitVec 32 := clsOf (ious x0 x2) (fun o => x1 (ix3 0 o 0)) p

theorem class_row (p : Fin 8732) :
    k0_pay22 (F := Ideal) (k0_pay2 x1) (k0_pay14 (F := Ideal) x0 x2) (k0_pay15 x2) (k0_pay16 x0) (ix2 0 p)
      = classes x0 x1 x2 p := by
  rw [q22, tab_iou]
  refine congrArg (fun l => clsOf (ious x0 x2) l p) (funext fun o => ?_)
  pointwise [k0_pay2]

/-- The class output. -/
theorem out5_at (p : Fin 8732) : out0_5 (F := Ideal) x0 x1 x2 x3 x4 (ix3 0 0 p) = classes x0 x1 x2 p := by
  refine Eq.trans ?_ (class_row x0 x1 x2 p)
  unfold_out out0_5
  frame_out
  pointwise [k0_pay23]

/-- The location output. -/
theorem out6_at : out0_6 (F := Ideal) x0 x1 x2 x3 x4 (ix3 0 0 0)
    = ∑ p : Fin 8732, ((((fun e : Fin 4 → EReal => e 0 + e 1 + e 2 + e 3)
        (locErr (fun k => x4 (ix3 0 k p)) (fun k => x0 (ix3 0 (pickOf (ious x0 x2) p) k)) (fun k => x3 (ix2 k p))))
        * posOf (classes x0 x1 x2 p))) := by
  have h := q30 x0 (k0_pay4 x3) (k0_pay5 x4) (k0_pay14 (F := Ideal) x0 x2) (k0_pay15 x2) (k0_pay16 x0)
    (k0_pay22 (F := Ideal) (k0_pay2 x1) (k0_pay14 (F := Ideal) x0 x2) (k0_pay15 x2) (k0_pay16 x0))
  rw [tab_iou] at h
  refine Eq.trans ?_ (h.trans (Finset.sum_congr rfl fun p _ => ?_))
  · unfold_out out0_6
    frame_out
  · rw [class_row]
    have e3 : (fun k => k0_pay4 (F := Ideal) x3 (ix2 k p)) = fun k => x3 (ix2 k p) := by
      funext k; pointwise [k0_pay4]
    have e4 : (fun k => k0_pay5 (F := Ideal) x4 (ix2 k p)) = fun k => x4 (ix3 0 k p) := by
      funext k; pointwise [k0_pay5]
    rw [e3, e4]
    rfl

/-- The count output. -/
theorem out7_at : out0_7 (F := Ideal) x0 x1 x2 x3 x4 (ix3 0 0 0)
    = ∑ p : Fin 8732, if classes x0 x1 x2 p = 0#32 then 0#32 else 1#32 := by
  have e : out0_7 (F := Ideal) x0 x1 x2 x3 x4 (ix3 0 0 0)
      = Finset.univ.fold IntOp.addi 0#32 (fun p : Fin 8732 => BitVec.setWidth 32 (IntOp.cmpi CmpIPredicate.ne
        (k0_pay22 (F := Ideal) (k0_pay2 x1) (k0_pay14 (F := Ideal) x0 x2) (k0_pay15 x2) (k0_pay16 x0) (ix2 0 p)) 0#32)) := by
    unfold_out out0_7
    frame_out
    pointwise [k0_pay25]
  rw [e]
  refine (Finset.sum_eq_fold (s := Finset.univ) _).symm.trans (Finset.sum_congr rfl fun p _ => ?_)
  rw [class_row]
  exact ne_word _

end Out

end Cert.Proof
-- ==== Proof.KCe.lean ====
/- The cross-entropy kernel's values. -/
module

public import proofs.«01_k».proof.Proof.Ce
public import proofs.«01_k».proof.Proof.Gen.KernelIdeal.Skeleton

@[expose] public section

set_option maxRecDepth 16384

noncomputable section

namespace Cert.Proof

open Idealize.ShloMosaic Cert.KernelIdeal Cert.KernelIdeal.Gen

variable (x : Vec Ideal S1x8732x81 .f32) (t : Vec Ideal S1x8732x1 .i32)

/-- The one-hot sum is the class's entry. -/
theorem onehot_sum (f : Fin 81 → EReal) (w : BitVec 32) (k : Fin 81) (hw : w = BitVec.ofNat 32 k.val) :
    ∑ j : Fin 81, f j * (FloatOps.sitofp FTy.f32 (BitVec.setWidth 32 (IntOp.cmpi CmpIPredicate.eq (BitVec.ofNat 32 j.val) w)) : Ideal .f32)
      = f k := by
  subst hw
  have e (j : Fin 81) : (FloatOps.sitofp FTy.f32 (BitVec.setWidth 32 (IntOp.cmpi CmpIPredicate.eq (BitVec.ofNat 32 j.val) (BitVec.ofNat 32 k.val))) : Ideal .f32)
      = ((if j = k then (1 : ℝ) else 0 : ℝ) : EReal) := by
    refine Eq.trans ?_ (bit_conv (j = k))
    refine congrArg (fun b : Bool => (FloatOps.sitofp FTy.f32 (BitVec.setWidth 32 (BitVec.ofBool b)) : Ideal .f32)) ?_
    rw [Bool.eq_iff_iff, beq_iff_eq, decide_eq_true_iff, ofNat_inj (by norm_num)]
  refine (Finset.sum_eq_single k (fun j _ hj => ?_) fun h => absurd (Finset.mem_univ k) h).trans ?_
  · rw [e, if_neg hj, EReal.coe_zero, mul_zero]
  · rw [e, if_pos rfl, EReal.coe_one, mul_one]

/-- A prior's cross-entropy. -/
theorem ce_at (p : Fin 8732) (k : Fin 81) (hk : t (ix3 0 p 0) = BitVec.ofNat 32 k.val) :
    k1_pay3 (F := Ideal) x t (ix2 p 0) = ceOf (fun j => x (ix3 0 p j)) k := by
  have e (d : EReal) (hd : d = peak (fun j => x (ix3 0 p j)) + Ideal.log (∑ j, Ideal.exp (x (ix3 0 p j) - peak (fun j => x (ix3 0 p j))))
      - ∑ j : Fin 81, x (ix3 0 p j) * (FloatOps.sitofp FTy.f32 (BitVec.setWidth 32 (IntOp.cmpi CmpIPredicate.eq (BitVec.ofNat 32 j.val) (t (ix3 0 p 0)))) : Ideal .f32)) :
      k1_pay3 (F := Ideal) x t (ix2 p 0)
        = Scalar.select (IntOp.ori (BitVec.ofBool (decide (d ≠ d))) (BitVec.ofBool (decide (max d (-d) = ⊤)))) 0 d := by
    rw [hd, ← lit_top]
    unfold peak
    rw [← lit_bot]
    pointwise [k1_pay3, k1_pay2]
    rfl
  rw [e _ rfl, select_dropInf, onehot_sum _ _ k hk]
  rfl

/-- Whether a prior is positive. -/
theorem pos_at (p : Fin 8732) : k1_pay4 t (ix2 p 0) = IntOp.cmpi .ne (t (ix3 0 p 0)) 0#32 := by
  pointwise [k1_pay4, k1_pay2]

theorem select_ne (c : BitVec 32) (a b : EReal) : Scalar.select (IntOp.cmpi .ne c 0#32) a b = if c = 0#32 then b else a := by
  by_cases h : c = 0#32
  · subst h; rw [if_pos rfl]; rfl
  · rw [if_neg h, show IntOp.cmpi .ne c 0#32 = 1#1 from congrArg BitVec.ofBool (bne_iff_ne.mpr h)]; rfl

/-- The background priors' cross-entropies. -/
theorem ceneg_at (p : Fin 8732) (k : Fin 81) (hk : t (ix3 0 p 0) = BitVec.ofNat 32 k.val) :
    k1_pay1 (F := Ideal) (k1_pay6 (F := Ideal) x t) (ix3 0 p 0)
      = if t (ix3 0 p 0) = 0#32 then ceOf (fun j => x (ix3 0 p j)) k else 0 := by
  have e : k1_pay1 (F := Ideal) (k1_pay6 (F := Ideal) x t) (ix3 0 p 0)
      = Scalar.select (k1_pay4 t (ix2 p 0)) 0 (k1_pay3 (F := Ideal) x t (ix2 p 0)) := by
    pointwise [k1_pay1, k1_pay6]
  rw [e, pos_at, ce_at x t p k hk]
  exact select_ne _ _ _

/-- The sum of the positive priors' cross-entropies. -/
theorem cepos_at (k : Fin 8732 → Fin 81) (hk : ∀ p, t (ix3 0 p 0) = BitVec.ofNat 32 (k p).val) :
    k1_pay5 (F := Ideal) x t (ix3 0 0 0) = ∑ p, ceOf (fun j => x (ix3 0 p j)) (k p) * posOf (t (ix3 0 p 0)) := by
  have e : k1_pay5 (F := Ideal) x t (ix3 0 0 0) = ∑ p : Fin 8732, k1_pay3 (F := Ideal) x t (ix2 p 0)
      * (FloatOps.sitofp FTy.f32 (BitVec.setWidth 32 (k1_pay4 t (ix2 p 0))) : Ideal .f32) := by
    pointwise [k1_pay5]
  rw [e]
  refine Finset.sum_congr rfl fun p _ => ?_
  rw [ce_at x t p (k p) (hk p), pos_at, pos_word]

end Cert.Proof
-- ==== Proof.KHost.lean ====
/- The kernel's host lines, read at an index. -/
module

public import proofs.«01_k».proof.Proof.Ce
public import proofs.«01_k».proof.Proof.Gen.KernelIdeal.Frame
public import Idealize.ShloMosaic.Lib.StableHlo.ReadAt

@[expose] public section

set_option maxRecDepth 16384

noncomputable section

namespace Cert.Proof

open Idealize.ShloMosaic Idealize.ShloMosaic.TcCoe Cert.KernelIdeal Cert.KernelIdeal.Gen

variable (V : Valuation τ sig (Elt Ideal))

/-- The priors' corners, coordinate by row. -/
theorem host_corners (k : Fin 4) (p : Fin 8732) :
    StableHlo.after hostOps0 V (Proc.devRef .tc main_v11) (ix2 k p)
      = corners (fun k => V (Proc.devRef .tc main_arg4) (ix2 p k)) k := by
  obtain ⟨X, hX⟩ : ∃ X : Fin 8732 → Fin 4 → EReal, X = fun p k => V (Proc.devRef .tc main_arg4) (ix2 p k) := ⟨_, rfl⟩
  have e0 : @Eq EReal (StableHlo.after hostOps0 V (Proc.devRef .tc main_v11) (ix2 0 p))
      (X p 0 - X p 2 * Ideal.ofBits FTy.f32 1056964608#32) := by
    subst hX; after_reads_at; after_reads_at
  have e1 : @Eq EReal (StableHlo.after hostOps0 V (Proc.devRef .tc main_v11) (ix2 1 p))
      (X p 1 - X p 3 * Ideal.ofBits FTy.f32 1056964608#32) := by
    subst hX; after_reads_at; after_reads_at
  have e2 : @Eq EReal (StableHlo.after hostOps0 V (Proc.devRef .tc main_v11) (ix2 2 p))
      (X p 0 + X p 2 * Ideal.ofBits FTy.f32 1056964608#32) := by
    subst hX; after_reads_at; after_reads_at
  have e3 : @Eq EReal (StableHlo.after hostOps0 V (Proc.devRef .tc main_v11) (ix2 3 p))
      (X p 1 + X p 3 * Ideal.ofBits FTy.f32 1056964608#32) := by
    subst hX; after_reads_at; after_reads_at
  rw [lit_half] at e0 e1 e2 e3
  rw [← show X p = fun k => V (Proc.devRef .tc main_arg4) (ix2 p k) from congrFun hX p]
  fin_cases k
  · exact e0
  · exact e1
  · exact e2
  · exact e3

theorem host_priors (k : Fin 4) (p : Fin 8732) :
    StableHlo.after hostOps0 V (Proc.devRef .tc main_v12) (ix2 k p) = V (Proc.devRef .tc main_arg4) (ix2 p k) := by
  after_reads_at
theorem host_locs (b : Fin 64) (k : Fin 4) (p : Fin 8732) :
    StableHlo.after hostOps0 V (Proc.devRef .tc main_v13) (ix3 b k p) = V (Proc.devRef .tc main_arg0) (ix3 b p k) := by
  after_reads_at
theorem host_labels (b : Fin 64) (o : Fin 16) :
    StableHlo.after hostOps0 V (Proc.devRef .tc main_v14) (ix3 b o 0) = V (Proc.devRef .tc main_arg3) (ix2 b o) := by
  after_reads_at
theorem host_class (b : Fin 64) (p : Fin 8732) :
    StableHlo.after hostOps1 V (Proc.devRef .tc main_v16) (ix3 b p 0) = V (Proc.devRef .tc main_v15_0) (ix3 b 0 p) := by
  after_reads_at
theorem host_neg (b : Fin 64) (p : Fin 8732) :
    StableHlo.after hostOps2 V (Proc.devRef .tc main_v18) (ix2 b p) = V (Proc.devRef .tc main_v17_1) (ix3 b p 0) := by
  after_reads_at
theorem host_cnt (b : Fin 64) :
    StableHlo.after hostOps2 V (Proc.devRef .tc main_v19) (ix2 b 0) = V (Proc.devRef .tc main_v15_2) (ix3 b 0 0) := by
  after_reads_at

/-- The loss's last lines. -/
theorem host_tail (i : S_.Idx) :
    StableHlo.after hostOps3_4 (StableHlo.after hostOps3_3 (StableHlo.after hostOps3_2 (StableHlo.after hostOps3_1 (StableHlo.after hostOps3 V))))
      (Proc.devRef .tc main_v38) i
      = lossOf (∑ b : Fin 64, V (Proc.devRef .tc main_v20) (ix2 b 0)) (∑ b : Fin 64, V (Proc.devRef .tc main_v17_0) (ix3 b 0 0))
        (∑ b : Fin 64, V (Proc.devRef .tc main_v15_1) (ix3 b 0 0)) (∑ b : Fin 64, (V (Proc.devRef .tc main_v15_2) (ix3 b 0 0) : BitVec 32)) := by
  have h1 (f : Fin 64 → Fin 1 → EReal) : ∑ k0, ∑ k1, f k0 k1 = ∑ b, f b 0 :=
    Finset.sum_congr rfl fun b _ => Fin.sum_univ_one _
  have h2 (f : Fin 64 → Fin 1 → Fin 1 → EReal) : ∑ k0, ∑ k1, ∑ k2, f k0 k1 k2 = ∑ b, f b 0 0 :=
    Finset.sum_congr rfl fun b _ => (Fin.sum_univ_one _).trans (Fin.sum_univ_one _)
  have h3 (f : Fin 64 → Fin 1 → Fin 1 → BitVec 32) :
      Finset.univ.fold IntOp.addi 0#32 (fun k : Fin 64 × Fin 1 × Fin 1 => f k.1 k.2.1 k.2.2) = ∑ b, f b 0 0 :=
    (Finset.sum_eq_fold (s := Finset.univ) _).symm.trans (((Fintype.sum_prod_type _)).trans (Finset.sum_congr rfl fun b _ =>
      (Fintype.sum_prod_type _).trans ((Fin.sum_univ_one _).trans (Fin.sum_univ_one _))))
  rw [← h1 fun a b => V (Proc.devRef .tc main_v20) (ix2 a b), ← h2 fun a b c => V (Proc.devRef .tc main_v17_0) (ix3 a b c),
    ← h2 fun a b c => V (Proc.devRef .tc main_v15_1) (ix3 a b c), ← h3 fun a b c => V (Proc.devRef .tc main_v15_2) (ix3 a b c)]
  unfold lossOf
  rw [← select_dropInf, ← lit_top]
  after_reads_at
  rw [show id (constant (F := Ideal) S_ FTy.f32 0#32) i = (0 : EReal) from lit_zero]
  rfl

end Cert.Proof
-- ==== Proof.KValue.lean ====
/- The kernel's result: the loss of its arguments. -/
module

public import proofs.«01_k».proof.Proof.Loss
public import proofs.«01_k».proof.Proof.KRun
public import proofs.«01_k».proof.Proof.KArr
public import proofs.«01_k».proof.Proof.KMatch
public import proofs.«01_k».proof.Proof.KCe
public import proofs.«01_k».proof.Proof.KHost

@[expose] public section

set_option maxRecDepth 16384

noncomputable section

namespace Cert.Proof

open Idealize.ShloMosaic Idealize.ShloMosaic.TcCoe Cert.KernelIdeal Cert.KernelIdeal.Gen

variable (m : (ℓ : Loc nD τ sig) → Buf (Elt Ideal) ℓ) (ρ : Dev nD → PrngReg) (c : Dev nD)

/-- The arguments, by their indices. -/
def a0 : Fin 64 → Fin 8732 → Fin 4 → EReal := fun b p k => m ((c : Thread nD τ).loc main_arg0) (ix3 b p k)
def a1 : Fin 64 → Fin 8732 → Fin 81 → EReal := fun b p k => m ((c : Thread nD τ).loc main_arg1) (ix3 b p k)
def a2 : Fin 64 → Fin 16 → Fin 4 → EReal := fun b o k => m ((c : Thread nD τ).loc main_arg2) (ix3 b o k)
def a3 : Fin 64 → Fin 16 → BitVec 32 := fun b o => m ((c : Thread nD τ).loc main_arg3) (ix2 b o)
def a4 : Fin 8732 → Fin 4 → EReal := fun p k => m ((c : Thread nD τ).loc main_arg4) (ix2 p k)

theorem v1_arg2 (b : Fin 64) (o : Fin 16) (k : Fin 4) : slab (V1 m ρ c main_arg2) b (ix3 0 o k) = a2 m c b o k :=
  congrFun (W1_args m ρ c main_arg2 (by decide)) _
theorem v1_label (b : Fin 64) (o : Fin 16) : slab (V1 m ρ c main_v14) b (ix3 0 o 0) = a3 m c b o :=
  host_labels (W0 m ρ c) b o
theorem v1_corner (k : Fin 4) (p : Fin 8732) : V1 m ρ c main_v11 (ix2 k p) = corners (a4 m c p) k :=
  host_corners (W0 m ρ c) k p
theorem v1_prior (k : Fin 4) (p : Fin 8732) : V1 m ρ c main_v12 (ix2 k p) = a4 m c p k :=
  host_priors (W0 m ρ c) k p
theorem v1_loc (b : Fin 64) (k : Fin 4) (p : Fin 8732) : slab (V1 m ρ c main_v13) b (ix3 0 k p) = a0 m c b p k :=
  host_locs (W0 m ρ c) b k p

theorem v1_ious (b : Fin 64) : ious (slab (V1 m ρ c main_arg2) b) (V1 m ρ c main_v11) = ovs (a2 m c) (a4 m c) b := by
  funext o p
  exact congrArg₂ iou (funext fun k => v1_arg2 m ρ c b o k) (funext fun k => v1_corner m ρ c k p)

theorem v1_class (b : Fin 64) (p : Fin 8732) :
    classes (slab (V1 m ρ c main_arg2) b) (slab (V1 m ρ c main_v14) b) (V1 m ρ c main_v11) p = cls (a2 m c) (a3 m c) (a4 m c) b p := by
  unfold classes cls
  rw [v1_ious]
  exact congrArg (fun l => clsOf _ l p) (funext fun o => v1_label m ρ c b o)

/-- What the matching kernel leaves. -/
theorem w2_class (b : Fin 64) (p : Fin 8732) :
    W2 m ρ c (Proc.devRef .tc main_v15_0) (ix3 b 0 p) = cls (a2 m c) (a3 m c) (a4 m c) b p :=
  (congrFun (W2_arr m ρ c 5) _).trans ((congrFun (arr0_5 (V1 m ρ) c) _).trans
    ((out5_at _ _ _ _ _ p).trans (v1_class m ρ c b p)))

theorem w2_locs (b : Fin 64) :
    W2 m ρ c (Proc.devRef .tc main_v15_1) (ix3 b 0 0) = locs (a0 m c) (a2 m c) (a3 m c) (a4 m c) b := by
  refine (congrFun (W2_arr m ρ c 6) _).trans ((congrFun (arr0_6 (V1 m ρ) c) _).trans
    ((out6_at _ _ _ _ _).trans (Finset.sum_congr rfl fun p _ => ?_)))
  have e0 : (fun k => slab (V1 m ρ c main_v13) b (ix3 0 k p)) = a0 m c b p := funext fun k => v1_loc m ρ c b k p
  have e2 (o : Fin 16) : (fun k => slab (V1 m ρ c main_arg2) b (ix3 0 o k)) = a2 m c b o := funext fun k => v1_arg2 m ρ c b o k
  have e4 : (fun k => V1 m ρ c main_v12 (ix2 k p)) = a4 m c p := funext fun k => v1_prior m ρ c k p
  have ei := v1_ious m ρ c b
  have ec := v1_class m ρ c b p
  refine congrArg₂ (· * ·) ?_ (congrArg posOf ec)
  show (fun e : Fin 4 → EReal => e 0 + e 1 + e 2 + e 3) (locErr (fun k => slab (V1 m ρ c main_v13) b (ix3 0 k p))
    (fun k => slab (V1 m ρ c main_arg2) b (ix3 0 (pickOf (ious (slab (V1 m ρ c main_arg2) b) (V1 m ρ c main_v11)) p) k))
    (fun k => V1 m ρ c main_v12 (ix2 k p))) = _
  rw [e0, e2, e4, ei]
  rfl

theorem w2_cnt (b : Fin 64) :
    W2 m ρ c (Proc.devRef .tc main_v15_2) (ix3 b 0 0) = cnt (a2 m c) (a3 m c) (a4 m c) b := by
  refine (congrFun (W2_arr m ρ c 7) _).trans ((congrFun (arr0_7 (V1 m ρ) c) _).trans
    ((out7_at _ _ _ _ _).trans (Finset.sum_congr rfl fun p _ => ?_)))
  have ec := v1_class m ρ c b p
  exact congrArg (fun k => if k = 0#32 then 0#32 else 1#32) ec

theorem v3_class (b : Fin 64) (p : Fin 8732) : slab (V3 m ρ c main_v16) b (ix3 0 p 0) = cls (a2 m c) (a3 m c) (a4 m c) b p :=
  (host_class (W2 m ρ c) b p).trans (w2_class m ρ c b p)
theorem v3_logit (b : Fin 64) (p : Fin 8732) (k : Fin 81) : slab (V3 m ρ c main_arg1) b (ix3 0 p k) = a1 m c b p k :=
  congrFun (W3_args m ρ c main_arg1 (by decide)) _

variable (hL : Labelled (a3 m c))
include hL

/-- What the cross-entropy kernel leaves. -/
theorem w4_negs (b : Fin 64) (p : Fin 8732) :
    W4 m ρ c (Proc.devRef .tc main_v17_1) (ix3 b p 0) = negs (a1 m c) (a2 m c) (a3 m c) (a4 m c) b p := by
  have ec := v3_class m ρ c b p
  refine (congrFun (W4_arr m ρ c 3) _).trans ((congrFun (arr1_3 (V3 m ρ) c) _).trans
    ((ceneg_at _ _ p (cidx (a2 m c) (a3 m c) (a4 m c) b p) (ec.trans (cls_eq _ _ _ hL b p))).trans ?_))
  show (if slab (V3 m ρ c main_v16) b (ix3 0 p 0) = 0#32 then ceOf (fun j => slab (V3 m ρ c main_arg1) b (ix3 0 p j)) _ else 0) = _
  rw [ec, show (fun j => slab (V3 m ρ c main_arg1) b (ix3 0 p j)) = a1 m c b p from funext fun j => v3_logit m ρ c b p j]
  rfl

theorem w4_cepos (b : Fin 64) :
    W4 m ρ c (Proc.devRef .tc main_v17_0) (ix3 b 0 0) = cepos (a1 m c) (a2 m c) (a3 m c) (a4 m c) b := by
  refine (congrFun (W4_arr m ρ c 2) _).trans ((congrFun (arr1_2 (V3 m ρ) c) _).trans
    ((cepos_at _ _ (cidx (a2 m c) (a3 m c) (a4 m c) b) fun p => (v3_class m ρ c b p).trans (cls_eq _ _ _ hL b p)).trans
      (Finset.sum_congr rfl fun p _ => ?_)))
  have ec := v3_class m ρ c b p
  show ceOf (fun j => slab (V3 m ρ c main_arg1) b (ix3 0 p j)) _ * posOf (slab (V3 m ρ c main_v16) b (ix3 0 p 0)) = _
  rw [ec, show (fun j => slab (V3 m ρ c main_arg1) b (ix3 0 p j)) = a1 m c b p from funext fun j => v3_logit m ρ c b p j]
  rfl

omit hL in
theorem w4_cnt (b : Fin 64) :
    W4 m ρ c (Proc.devRef .tc main_v15_2) (ix3 b 0 0) = cnt (a2 m c) (a3 m c) (a4 m c) b :=
  (congrFun ((W4_of m ρ c main_v15_2 (by decide)).trans (W3_of m ρ c main_v15_2 (by decide))) _).trans (w2_cnt m ρ c b)

/-- What the mining kernel leaves. -/
theorem w6_hard (b : Fin 64) (σ : Equiv.Perm (Fin 8732)) (hσ : Antitone (negs (a1 m c) (a2 m c) (a3 m c) (a4 m c) b ∘ σ)) :
    W6 m ρ c (Proc.devRef .tc main_v20) (ix2 b 0) = hardRow (negs (a1 m c) (a2 m c) (a3 m c) (a4 m c) b)
      (negs (a1 m c) (a2 m c) (a3 m c) (a4 m c) b ∘ σ) (cnt (a2 m c) (a3 m c) (a4 m c) b) := by
  obtain ⟨N, hN, hn⟩ := cnt_eq (a2 m c) (a3 m c) (a4 m c) b
  choose y hy0 hy using negs_real (a1 m c) (a2 m c) (a3 m c) (a4 m c) b
  have hx (p : Fin 8732) : V5 m ρ c main_v18 (ix2 b p) = negs (a1 m c) (a2 m c) (a3 m c) (a4 m c) b p :=
    (host_neg (W4 m ρ c) b p).trans (w4_negs m ρ c hL b p)
  have hc : V5 m ρ c main_v19 (ix2 b 0) = cnt (a2 m c) (a3 m c) (a4 m c) b :=
    (host_cnt (W4 m ρ c) b).trans (w4_cnt m ρ c b)
  have hanti : Antitone (y ∘ σ) := fun i j hij => by
    have := hσ hij
    rw [Function.comp_apply, Function.comp_apply, hy, hy] at this
    exact EReal.coe_le_coe_iff.mp this
  refine (congrFun (W6_arr m ρ c 2) _).trans ((congrFun (arr2_2 (V5 m ρ) c) _).trans
    ((mine_row _ _ b y (fun p => (hx p).trans (hy p)) hy0 N hN (hc.trans hn) σ hanti _ (List.length_finRange)).trans ?_))
  rw [hn]
  refine congrArg₂ (fun f g => hardRow f g (BitVec.ofNat 32 N)) (funext fun p => hx p) (funext fun p => hx (σ p))

/-- The kernel's result is the loss of its arguments. -/
theorem kernel_loss (σ : Fin 64 → Equiv.Perm (Fin 8732))
    (hσ : ∀ b, Antitone (negs (a1 m c) (a2 m c) (a3 m c) (a4 m c) b ∘ σ b)) (i : S_.Idx) :
    W11 m ρ c (Proc.devRef .tc main_v38) i = loss (a0 m c) (a1 m c) (a2 m c) (a3 m c) (a4 m c) σ := by
  refine (host_tail (W6 m ρ c) i).trans ?_
  have e1 (b : Fin 64) := w6_hard m ρ c hL b (σ b) (hσ b)
  have e2 (b : Fin 64) : W6 m ρ c (Proc.devRef .tc main_v17_0) (ix3 b 0 0) = cepos (a1 m c) (a2 m c) (a3 m c) (a4 m c) b :=
    (congrFun ((W6_of m ρ c main_v17_0 (by decide)).trans (W5_of m ρ c main_v17_0 (by decide))) _).trans (w4_cepos m ρ c hL b)
  have e3 (b : Fin 64) : W6 m ρ c (Proc.devRef .tc main_v15_1) (ix3 b 0 0) = locs (a0 m c) (a2 m c) (a3 m c) (a4 m c) b :=
    (congrFun ((W6_of m ρ c main_v15_1 (by decide)).trans ((W5_of m ρ c main_v15_1 (by decide)).trans
      ((W4_of m ρ c main_v15_1 (by decide)).trans (W3_of m ρ c main_v15_1 (by decide))))) _).trans (w2_locs m ρ c b)
  have e4 (b : Fin 64) : W6 m ρ c (Proc.devRef .tc main_v15_2) (ix3 b 0 0) = cnt (a2 m c) (a3 m c) (a4 m c) b :=
    (congrFun ((W6_of m ρ c main_v15_2 (by decide)).trans (W5_of m ρ c main_v15_2 (by decide))) _).trans (w4_cnt m ρ c b)
  unfold loss
  exact congr (congr (congrArg₂ lossOf (Finset.sum_congr rfl fun b _ => e1 b) (Finset.sum_congr rfl fun b _ => e2 b))
    (Finset.sum_congr rfl fun b _ => e3 b)) (Finset.sum_congr rfl fun b _ => e4 b)

end Cert.Proof
-- ==== Proof.RMatch.lean ====
/- The reference's matching of boxes with priors, read at an index. -/
module

public import proofs.«01_k».proof.Proof.Loss
public import proofs.«01_k».proof.Proof.KMine
public import proofs.«01_k».proof.Proof.Gen.ReferenceIdeal.Read

@[expose] public section

set_option maxRecDepth 16384

noncomputable section

namespace Cert.Proof.Ref

open Idealize.ShloMosaic Idealize.ShloMosaic.TcCoe Cert.ReferenceIdeal Cert.ReferenceIdeal.Read

variable (x0 : Vec Ideal S64x8732x4 .f32) (x1 : Vec Ideal S64x8732x81 .f32) (x2 : Vec Ideal S64x16x4 .f32) (x3 : Vec Ideal S64x16 .i32) (x4 : Vec Ideal S8732x4 .f32)

/-- The arguments, by their indices. -/
abbrev A0 : Fin 64 → Fin 8732 → Fin 4 → EReal := fun b p k => x0 (ix3 b p k)
abbrev A1 : Fin 64 → Fin 8732 → Fin 81 → EReal := fun b p k => x1 (ix3 b p k)
abbrev A2 : Fin 64 → Fin 16 → Fin 4 → EReal := fun b o k => x2 (ix3 b o k)
abbrev A3 : Fin 64 → Fin 16 → BitVec 32 := fun b o => x3 (ix2 b o)
abbrev A4 : Fin 8732 → Fin 4 → EReal := fun p k => x4 (ix2 p k)

/-- Dividing by a number that is not zero. -/
theorem div_real (x : EReal) (r : ℝ) (hr : r ≠ 0) : Ideal.div x (r : EReal) = x * ((1 / r : ℝ) : EReal) := by
  unfold Ideal.div
  rw [if_neg (by exact_mod_cast hr), ← EReal.coe_inv, one_div]

/-- Halving by a division. -/
theorem div_two (x : EReal) : Ideal.div x (Ideal.ofBits .f32 0x40000000#32) = x * ((1 / 2 : ℝ) : EReal) := by
  rw [lit_two]
  exact div_real x 2 (by norm_num)

theorem corner_at (p : Fin 8732) (k : Fin 4) : val_main_v14 x4 (ix2 p k) = corners (A4 x4 p) k := by
  have e0 : val_main_v14 x4 (ix2 p 0) = x4 (ix2 p 0) - Ideal.div (x4 (ix2 p 2)) (Ideal.ofBits .f32 0x40000000#32) := by
    pointwise [val_main_v14, val_main_v8, val_main_v13, val_main_v4, val_main_v5, val_main_v7, val_main_v6, val_main_cst, val_main_v9, val_main_v10, val_main_v12, val_main_v11, val_main_cst_0]
  have e1 : val_main_v14 x4 (ix2 p 1) = x4 (ix2 p 1) - Ideal.div (x4 (ix2 p 3)) (Ideal.ofBits .f32 0x40000000#32) := by
    pointwise [val_main_v14, val_main_v8, val_main_v13, val_main_v4, val_main_v5, val_main_v7, val_main_v6, val_main_cst, val_main_v9, val_main_v10, val_main_v12, val_main_v11, val_main_cst_0]
  have e2 : val_main_v14 x4 (ix2 p 2) = x4 (ix2 p 0) + Ideal.div (x4 (ix2 p 2)) (Ideal.ofBits .f32 0x40000000#32) := by
    pointwise [val_main_v14, val_main_v8, val_main_v13, val_main_v4, val_main_v5, val_main_v7, val_main_v6, val_main_cst, val_main_v9, val_main_v10, val_main_v12, val_main_v11, val_main_cst_0]
  have e3 : val_main_v14 x4 (ix2 p 3) = x4 (ix2 p 1) + Ideal.div (x4 (ix2 p 3)) (Ideal.ofBits .f32 0x40000000#32) := by
    pointwise [val_main_v14, val_main_v8, val_main_v13, val_main_v4, val_main_v5, val_main_v7, val_main_v6, val_main_cst, val_main_v9, val_main_v10, val_main_v12, val_main_v11, val_main_cst_0]
  rw [div_two] at e0 e1 e2 e3
  match k with
  | 0 => exact e0
  | 1 => exact e1
  | 2 => exact e2
  | 3 => exact e3

/-- The overlaps. -/
theorem iou_at (b : Fin 64) (o : Fin 16) (p : Fin 8732) :
    val_main_v64 x2 x4 (ix3 b o p) = ovs (A2 x2) (A4 x4) b o p := by
  obtain ⟨q, hq⟩ : ∃ q : Vec Ideal S8732x4 .f32, q = val_main_v14 x4 := ⟨_, rfl⟩
  have e : val_main_v64 x2 x4 (ix3 b o p) = Ideal.div
      (max 0 (min (x2 (ix3 b o 2)) (q (ix2 p 2)) - max (x2 (ix3 b o 0)) (q (ix2 p 0))) *
        max 0 (min (x2 (ix3 b o 3)) (q (ix2 p 3)) - max (x2 (ix3 b o 1)) (q (ix2 p 1))))
      ((x2 (ix3 b o 2) - x2 (ix3 b o 0)) * (x2 (ix3 b o 3) - x2 (ix3 b o 1)) +
          (q (ix2 p 2) - q (ix2 p 0)) * (q (ix2 p 3) - q (ix2 p 1)) -
        max 0 (min (x2 (ix3 b o 2)) (q (ix2 p 2)) - max (x2 (ix3 b o 0)) (q (ix2 p 0))) *
          max 0 (min (x2 (ix3 b o 3)) (q (ix2 p 3)) - max (x2 (ix3 b o 1)) (q (ix2 p 1)))) := by
    rw [hq]
    pointwise [val_main_v64, val_main_v63, val_main_v62, val_main_v61, val_main_v60, val_main_v59, val_main_v58, val_main_v57, val_main_v56, val_main_v55, val_main_v54, val_main_v53, val_main_v52, val_main_v51, val_main_v50, val_main_v49, val_main_v48, val_main_v47, val_main_v46, val_main_v45, val_main_v44, val_main_v43, val_main_v42, val_main_v41, val_main_v40, val_main_v39, val_main_v38, val_main_v37, val_main_v36, val_main_v35, val_main_v34, val_main_v33, val_main_v32, val_main_v31, val_main_v30, val_main_call0_v1, val_main_call0_v0, val_main_cst_1, val_main_v29, val_main_v28, val_main_v27, val_main_v26, val_main_v25, val_main_v24, val_main_v23, val_main_v22, val_main_v21, val_main_v20, val_main_v19, val_main_v18, val_main_v17, val_main_v16, val_main_v15]
    rw [show id (constant (F := Ideal) S_ FTy.f32 0#32) ix0 = (0 : EReal) from lit_zero]
  have hc (k : Fin 4) : q (ix2 p k) = corners (A4 x4 p) k := by rw [hq]; exact corner_at x4 p k
  rw [e, hc, hc, hc, hc]
  unfold ovs iou
  rw [max_comm (0 : EReal), max_comm (0 : EReal)]

end Cert.Proof.Ref
-- ==== Proof.Pick.lean ====
/- A stable sort's first place, a scatter's last writer and a gather's element. -/
module

public import proofs.«01_k».proof.Proof.First
public import Idealize.ShloMosaic.Lib.SortFacts
public import Idealize.ShloMosaic.Lib.Routing.OpsPair

@[expose] public section

set_option maxRecDepth 16384

noncomputable section

namespace Cert.Proof

open Idealize.ShloMosaic Idealize.ShloMosaic.Routing

/-- The head of a list in order, sorted with the greater first: greatest, and greater than all before it. -/
theorem head_sorted {n : ℕ} (f : Fin n → EReal) (l : List (Fin n)) (hl : l.Pairwise (· < ·)) (h : Fin n) (t : List (Fin n))
    (e : stableSort (fun a b => decide (f b < f a)) l = h :: t) : (∀ j ∈ l, f j ≤ f h) ∧ ∀ j ∈ l, j < h → f j < f h := by
  induction l generalizing h t with
  | nil => exact nomatch e
  | cons a l ih =>
    rw [List.pairwise_cons] at hl
    unfold stableSort at e
    rcases e' : stableSort (fun a b => decide (f b < f a)) l with _ | ⟨h', t'⟩
    · have : l = [] := by
        have := length_stableSort (fun a b => decide (f b < f a)) l
        rw [e'] at this
        exact List.eq_nil_of_length_eq_zero this.symm
      subst this
      rw [e'] at e
      unfold insertBefore at e
      cases e
      exact ⟨fun j hj => by rw [List.mem_singleton.mp hj], fun j hj hlt => absurd hlt (by rw [List.mem_singleton.mp hj]; exact lt_irrefl _)⟩
    · obtain ⟨i1, i2⟩ := ih hl.2 h' t' e'
      rw [e'] at e
      unfold insertBefore at e
      by_cases hc : f a < f h'
      · rw [if_pos (decide_eq_true hc)] at e
        cases e
        refine ⟨fun j hj => ?_, fun j hj hlt => ?_⟩
        · rcases List.mem_cons.mp hj with rfl | hj
          · exact hc.le
          · exact i1 j hj
        · rcases List.mem_cons.mp hj with rfl | hj
          · exact hc
          · exact i2 j hj hlt
      · rw [if_neg (by simpa using hc)] at e
        cases e
        refine ⟨fun j hj => ?_, fun j hj hlt => ?_⟩
        · rcases List.mem_cons.mp hj with rfl | hj
          · exact le_rfl
          · exact (i1 j hj).trans (not_lt.mp hc)
        · rcases List.mem_cons.mp hj with rfl | hj
          · exact absurd hlt (lt_irrefl _)
          · exact absurd hlt (hl.1 j hj).asymm

/-- The place a stable sort, the greater first, draws its first entry from. -/
theorem sortedFrom_first {n : ℕ} [NeZero n] (f : Fin n → EReal) (R : Fin n → Fin n → Bool) (hR : ∀ a b, R a b = decide (f b < f a)) :
    sortedFrom R 0 = first f := by
  obtain rfl : R = fun a b => decide (f b < f a) := funext fun a => funext fun b => hR a b
  rcases e : stableSort (fun a b => decide (f b < f a)) (List.finRange n) with _ | ⟨h, t⟩
  · have := length_stableSort (fun a b => decide (f b < f a)) (List.finRange n)
    rw [e, List.length_finRange] at this
    exact absurd this.symm (NeZero.ne n)
  · obtain ⟨h1, h2⟩ := head_sorted f _ (List.pairwise_lt_finRange n) h t e
    have : sortedFrom (fun a b => decide (f b < f a)) 0 = h := by
      unfold sortedFrom sortPositions
      rw [List.get_eq_getElem]
      simp only [e]
      rfl
    rw [this]
    exact (first_eq f h (fun j => h1 j (List.mem_finRange _)) fun j => h2 j (List.mem_finRange _)).symm

/-- The place of the greatest entry along the last axis. -/
theorem topK_first {A B n : ℕ} [NeZero n] (x : Vec Ideal ⟨3, ![A, B, n]⟩ .f32)
    (h : (⟨3, ![A, B, n]⟩ : Shape).Slices (fun _ => 0) ⟨3, ![A, B, 1]⟩) (a : Fin A) (b : Fin B) :
    (Host.topK (s := ⟨3, ![A, B, n]⟩) (α := Ideal .f32) ⟨3, ![A, B, 1]⟩ 2 (FloatOps.cmpfTotal (F := Ideal) (φ := .f32) .gt) x h).2 (ix3 a b 0)
      = BitVec.ofNat 32 (first fun k => x (ix3 a b k)).val := by
  have al (q : Fin n) : (ix3 a b (0 : Fin n) : (⟨3, ![A, B, n]⟩ : Shape).Idx).along 2 q = ix3 a b q := by
    funext d
    match d with
    | ⟨0, _⟩ => rfl
    | ⟨1, _⟩ => rfl
    | ⟨2, _⟩ => rfl
  rw [← sortedFrom_first (fun k => x (ix3 a b k)) (fun k k' => (FloatOps.cmpfTotal (F := Ideal) (φ := .f32) .gt (x (ix3 a b k)) (x (ix3 a b k'))) == 1#1)
    fun k k' => ?_]
  · unfold Host.topK
    dsimp only
    rw [show (fun k k' => (FloatOps.cmpfTotal (F := Ideal) (φ := .f32) .gt (x (ix3 a b k)) (x (ix3 a b k'))) == 1#1)
      = fun k k' => (FloatOps.cmpfTotal (F := Ideal) (φ := .f32) .gt (x ((ix3 a b (0 : Fin n) : (⟨3, ![A, B, n]⟩ : Shape).Idx).along 2 k))
        (x ((ix3 a b (0 : Fin n) : (⟨3, ![A, B, n]⟩ : Shape).Idx).along 2 k'))) == 1#1 from by
        funext k k'; rw [al, al]]
    refine (extractStridedSlice_apply _ _ h _ (ix3 a b (0 : Fin n)) ?_).trans ?_
    · intro d
      match d with
      | ⟨0, _⟩ => exact (Nat.zero_add _).symm
      | ⟨1, _⟩ => exact (Nat.zero_add _).symm
      | ⟨2, _⟩ => rfl
    · rfl
  · rw [Ideal.cmpfTotal_def]
    show (BitVec.ofBool (decide (x (ix3 a b k') < x (ix3 a b k))) == 1#1) = _
    cases decide (x (ix3 a b k') < x (ix3 a b k)) <;> rfl

/-- A fold that keeps the last update that lands. -/
theorem foldl_last {ι α : Type} [LinearOrder ι] (P : ι → Prop) [DecidablePred P] (v : ι → α) (l : List ι)
    (hl : l.Pairwise (· < ·)) (x : α) (m : ι) (hm : m ∈ l) (hP : P m) (hlast : ∀ n ∈ l, P n → n ≤ m) :
    l.foldl (fun a n => if P n then v n else a) x = v m := by
  induction l generalizing x with
  | nil => exact nomatch hm
  | cons a l ih =>
    rw [List.pairwise_cons] at hl
    rw [List.foldl_cons]
    rcases List.mem_cons.mp hm with rfl | hm'
    · rw [if_pos hP]
      have hn : ∀ n ∈ l, ¬ P n := fun n hn hPn => absurd (hlast n (List.mem_cons_of_mem _ hn) hPn) (not_le.mpr (hl.1 n hn))
      clear ih hm hlast hl
      induction l with
      | nil => rfl
      | cons b l ih =>
        rw [List.foldl_cons, if_neg (hn b List.mem_cons_self)]
        exact ih fun n h => hn n (List.mem_cons_of_mem _ h)
    · exact ih hl.2 _ hm' fun n h => hlast n (List.mem_cons_of_mem _ h)

/-- A scatter of a row of updates per row, the last update at a place winning. -/
theorem scatter_last {α : Type} {R C B : ℕ} [NeZero B] (d : ScatterDims ⟨2, ![R, C]⟩ ⟨3, ![R, B, 2]⟩ ⟨2, ![R, B]⟩) (hiw : d.insertedWindowDims = [0, 1])
    (hsd : d.scatterDimsToOperandDims = [0, 1]) (hivd : d.indexVectorDim = 2) (idx : IVec ⟨3, ![R, B, 2]⟩ 32)
    (x : (⟨2, ![R, C]⟩ : Shape).Idx → α) (u : (⟨2, ![R, B]⟩ : Shape).Idx → α) (best : Fin R → Fin B → Fin C)
    (h0 : ∀ a o, (idx (ix3 a o 0)).toInt = a.val) (h1 : ∀ a o, (idx (ix3 a o 1)).toInt = (best a o).val) (r : Fin R) (c : Fin C) :
    Host.scatter d (fun _ b => b) x idx u (ix2 r c)
      = if h : (claims (best r) c).Nonempty then u (ix2 r ((claims (best r) c).max' h)) else x (ix2 r c) := by
  have hl (k : (⟨2, ![R, B]⟩ : Shape).Idx) : d.resultIdx? k idx = some (ix2 r c) ↔ k 0 = r ∧ best (k 0) (k 1) = c := by
    obtain ⟨a, o, rfl⟩ : ∃ a o, k = ix2 a o := ⟨k 0, k 1, by funext q; match q with | ⟨0, _⟩ => rfl | ⟨1, _⟩ => rfl⟩
    refine (scatter_lands2 d hiw hsd hivd idx a o r c).trans ?_
    show (idx (ix3 a o 0)).toInt = r.val ∧ (idx (ix3 a o 1)).toInt = c.val ↔ a = r ∧ best a o = c
    rw [h0, h1, Nat.cast_inj, Nat.cast_inj, Fin.val_inj, Fin.val_inj]
  have hpos (k : (⟨2, ![R, B]⟩ : Shape).Idx) : ((⟨2, ![R, B]⟩ : Shape).rowMajor k).val = (k 0).val * B + (k 1).val :=
    Shape.rowMajor_val_two k
  rw [scatter_at]
  split
  · rename_i h
    have hm := (claims (best r) c).max'_mem h
    refine (foldl_last (fun n => d.resultIdx? ((⟨2, ![R, B]⟩ : Shape).rowMajor.symm n) idx = some (ix2 r c)) _ _ (List.pairwise_lt_finRange _) _
      ((⟨2, ![R, B]⟩ : Shape).rowMajor (ix2 r ((claims (best r) c).max' h))) (List.mem_finRange _) ?_ ?_).trans ?_
    · show d.resultIdx? ((⟨2, ![R, B]⟩ : Shape).rowMajor.symm ((⟨2, ![R, B]⟩ : Shape).rowMajor _)) idx = _
      rw [Equiv.symm_apply_apply, hl]
      exact ⟨rfl, (Finset.mem_filter.mp hm).2⟩
    · intro n _ hn
      obtain ⟨k, rfl⟩ := (⟨2, ![R, B]⟩ : Shape).rowMajor.surjective n
      rw [Equiv.symm_apply_apply, hl] at hn
      rw [Fin.le_def, hpos, hpos, hn.1]
      obtain ⟨o, ho, ho1⟩ : ∃ o : Fin B, best r o = c ∧ o = k 1 := ⟨k 1, by rw [← hn.1]; exact hn.2, rfl⟩
      have : k 1 ≤ (claims (best r) c).max' h := by
        rw [← ho1]
        exact Finset.le_max' (claims (best r) c) o (Finset.mem_filter.mpr ⟨Finset.mem_univ o, ho⟩)
      exact Nat.add_le_add_left (Fin.le_def.mp this) _
    · rw [Equiv.symm_apply_apply]
  · rename_i h
    have hn (n) : ¬ d.resultIdx? ((⟨2, ![R, B]⟩ : Shape).rowMajor.symm n) idx = some (ix2 r c) := fun hn => by
      rw [hl] at hn
      obtain ⟨o, ho⟩ : ∃ o : Fin B, best r o = c :=
        ⟨((⟨2, ![R, B]⟩ : Shape).rowMajor.symm n) 1, by rw [← hn.1]; exact hn.2⟩
      exact h ⟨o, Finset.mem_filter.mpr ⟨Finset.mem_univ _, ho⟩⟩
    generalize List.finRange (⟨2, ![R, B]⟩ : Shape).numel = l
    induction l with
    | nil => rfl
    | cons a l ih => rw [List.foldl_cons, if_neg (hn a)]; exact ih

end Cert.Proof
-- ==== Proof.RGather.lean ====
/- The reference's gathers, read at an index. -/
module

public import proofs.«01_k».proof.Proof.First
public import proofs.«01_k».proof.ReferenceIdeal

@[expose] public section

set_option maxRecDepth 16384

noncomputable section

namespace Cert.Proof.Ref

open Idealize.ShloMosaic Cert.ReferenceIdeal

variable [hf : Cert.ReferenceIdeal.Facts]

/-- A label, gathered by its image and its object. -/
theorem gather_label {α : Type} (x : S64x16.Idx → α) (idx : IVec S64x8732x2 32) (b : Fin 64) (p : Fin 8732) (o : Fin 16)
    (h0 : (idx (ix3 b p 0)).toInt = b.val) (h1 : (idx (ix3 b p 1)).toInt = o.val) :
    Host.gather gather_S64x16_S64x8732x2_S64x8732_n_01_n_n_01_2_11 x idx (ix2 b p) = x (ix2 b o) := by
  have s (c : Fin 2) : gather_S64x16_S64x8732x2_S64x8732_n_01_n_n_01_2_11.siIdx (ix2 b p) c = ix3 b p c := by
    funext a
    match a with
    | ⟨0, _⟩ => rfl
    | ⟨1, _⟩ => rfl
    | ⟨2, _⟩ => rfl
  have hb := b.isLt
  have ho := o.isLt
  refine congrArg x (funext fun a => Fin.ext ?_)
  match a with
  | ⟨0, _⟩ =>
    show min (idx (gather_S64x16_S64x8732x2_S64x8732_n_01_n_n_01_2_11.siIdx (ix2 b p) (0 : Fin 2))).toInt.toNat (64 - 1) + 0 + 0 = b.val
    rw [s, h0]; omega
  | ⟨1, _⟩ =>
    show min (idx (gather_S64x16_S64x8732x2_S64x8732_n_01_n_n_01_2_11.siIdx (ix2 b p) (1 : Fin 2))).toInt.toNat (16 - 1) + 0 + 0 = o.val
    rw [s, h1]; omega

/-- A box's coordinate, gathered by its image and its object. -/
theorem gather_box {α : Type} (x : S64x16x4.Idx → α) (idx : IVec S64x8732x2 32) (b : Fin 64) (p : Fin 8732) (o : Fin 16) (k : Fin 4)
    (h0 : (idx (ix3 b p 0)).toInt = b.val) (h1 : (idx (ix3 b p 1)).toInt = o.val) :
    Host.gather gather_S64x16x4_S64x8732x2_S64x8732x4_2_01_n_n_01_2_114 x idx (ix3 b p k) = x (ix3 b o k) := by
  have s (c : Fin 2) : gather_S64x16x4_S64x8732x2_S64x8732x4_2_01_n_n_01_2_114.siIdx (ix3 b p k) c = ix3 b p c := by
    funext a
    match a with
    | ⟨0, _⟩ => rfl
    | ⟨1, _⟩ => rfl
    | ⟨2, _⟩ => rfl
  have hb := b.isLt
  have ho := o.isLt
  refine congrArg x (funext fun a => Fin.ext ?_)
  match a with
  | ⟨0, _⟩ =>
    show min (idx (gather_S64x16x4_S64x8732x2_S64x8732x4_2_01_n_n_01_2_114.siIdx (ix3 b p k) (0 : Fin 2))).toInt.toNat (64 - 1) + 0 + 0 = b.val
    rw [s, h0]; omega
  | ⟨1, _⟩ =>
    show min (idx (gather_S64x16x4_S64x8732x2_S64x8732x4_2_01_n_n_01_2_114.siIdx (ix3 b p k) (1 : Fin 2))).toInt.toNat (16 - 1) + 0 + 0 = o.val
    rw [s, h1]; omega
  | ⟨2, _⟩ =>
    show 0 + 0 + k.val = k.val
    omega

/-- A logit, gathered by its image, its prior and its class. -/
theorem gather_logit {α : Type} (x : S64x8732x81.Idx → α) (idx : IVec S64x8732x3 32) (b : Fin 64) (p : Fin 8732) (k : Fin 81)
    (h0 : (idx (ix3 b p 0)).toInt = b.val) (h1 : (idx (ix3 b p 1)).toInt = p.val) (h2 : (idx (ix3 b p 2)).toInt = k.val) :
    Host.gather gather_S64x8732x81_S64x8732x3_S64x8732_n_012_n_n_012_2_111 x idx (ix2 b p) = x (ix3 b p k) := by
  have s (c : Fin 3) : gather_S64x8732x81_S64x8732x3_S64x8732_n_012_n_n_012_2_111.siIdx (ix2 b p) c = ix3 b p c := by
    funext a
    match a with
    | ⟨0, _⟩ => rfl
    | ⟨1, _⟩ => rfl
    | ⟨2, _⟩ => rfl
  have hb := b.isLt
  have hp := p.isLt
  have hk := k.isLt
  refine congrArg x (funext fun a => Fin.ext ?_)
  match a with
  | ⟨0, _⟩ =>
    show min (idx (gather_S64x8732x81_S64x8732x3_S64x8732_n_012_n_n_012_2_111.siIdx (ix2 b p) (0 : Fin 3))).toInt.toNat (64 - 1) + 0 + 0 = b.val
    rw [s, h0]; omega
  | ⟨1, _⟩ =>
    show min (idx (gather_S64x8732x81_S64x8732x3_S64x8732_n_012_n_n_012_2_111.siIdx (ix2 b p) (1 : Fin 3))).toInt.toNat (8732 - 1) + 0 + 0 = p.val
    rw [s, h1]; omega
  | ⟨2, _⟩ =>
    show min (idx (gather_S64x8732x81_S64x8732x3_S64x8732_n_012_n_n_012_2_111.siIdx (ix2 b p) (2 : Fin 3))).toInt.toNat (81 - 1) + 0 + 0 = k.val
    rw [s, h2]; omega

end Cert.Proof.Ref
-- ==== Proof.RPick.lean ====
/- The reference's choice of an object for every prior, and the class and the box it brings. -/
module

public import proofs.«01_k».proof.Proof.RMatch
public import proofs.«01_k».proof.Proof.Pick
public import proofs.«01_k».proof.Proof.RGather

@[expose] public section

set_option maxRecDepth 16384

noncomputable section

namespace Cert.Proof.Ref

open Idealize.ShloMosaic Idealize.ShloMosaic.TcCoe Cert.ReferenceIdeal Cert.ReferenceIdeal.Read

variable (x2 : Vec Ideal S64x16x4 .f32) (x3 : Vec Ideal S64x16 .i32) (x4 : Vec Ideal S8732x4 .f32)

/-- A wrapped index that is not negative. -/
theorem wrap_ofNat (n k : ℕ) (h : n < 2 ^ 31) :
    Scalar.select (IntOp.cmpi .slt (BitVec.ofNat 32 n) 0#32) (IntOp.addi (BitVec.ofNat 32 n) (BitVec.ofNat 32 k)) (BitVec.ofNat 32 n) = BitVec.ofNat 32 n :=
  Routing.wrap_of_lt _ _ (by rw [BitVec.toNat_ofNat, Nat.mod_eq_of_lt (by omega)]; omega)

theorem toInt_word (n : ℕ) (h : n < 2 ^ 31) : (BitVec.ofNat 32 n).toInt = n := by
  rw [BitVec.toInt_eq_toNat_of_lt] <;> rw [BitVec.toNat_ofNat, Nat.mod_eq_of_lt (by omega)]; omega

/-- An object's best prior. -/
theorem best_at (b : Fin 64) (o : Fin 16) :
    val_main_v68 x2 x4 (ix2 b o) = BitVec.ofNat 32 (first (ovs (A2 x2) (A4 x4) b o)).val := by
  have e : val_main_v68 x2 x4 (ix2 b o) = val_main_indices_4 x2 x4 (ix3 b o 0) := by pointwise [val_main_v68]
  rw [e]
  unfold val_main_indices_4
  refine (topK_first _ _ b o).trans ?_
  rw [show (fun k => val_main_v64 x2 x4 (ix3 b o k)) = ovs (A2 x2) (A4 x4) b o from funext fun k => iou_at x2 x4 b o k]

/-- The object a prior overlaps most. -/
theorem most_at (b : Fin 64) (p : Fin 8732) :
    val_main_v67 x2 x4 (ix2 b p) = BitVec.ofNat 32 (first fun o => ovs (A2 x2) (A4 x4) b o p).val := by
  have e : val_main_v67 x2 x4 (ix2 b p) = val_main_indices x2 x4 (ix3 b p 0) := by pointwise [val_main_v67]
  have e' (o : Fin 16) : val_main_v66 x2 x4 (ix3 b p o) = val_main_v64 x2 x4 (ix3 b o p) := by pointwise [val_main_v66]
  rw [e]
  unfold val_main_indices
  refine (topK_first _ _ b p).trans ?_
  rw [show (fun k => val_main_v66 x2 x4 (ix3 b p k)) = fun o => ovs (A2 x2) (A4 x4) b o p from
    funext fun o => (e' o).trans (iou_at x2 x4 b o p)]

/-- Its overlap. -/
theorem top_at (b : Fin 64) (p : Fin 8732) :
    val_main_v65 x2 x4 (ix2 b p) = ovs (A2 x2) (A4 x4) b (first fun o => ovs (A2 x2) (A4 x4) b o p) p := by
  have e : val_main_v65 x2 x4 (ix2 b p)
      = Finset.univ.fold max (Ideal.ofBits FTy.f32 0xFF800000#32) fun o => val_main_v64 x2 x4 (ix3 b o p) := by
    pointwise [val_main_v65, val_main_cst_2]
  rw [e, lit_bot, show (fun o => val_main_v64 x2 x4 (ix3 b o p)) = fun o => ovs (A2 x2) (A4 x4) b o p from
    funext fun o => iou_at x2 x4 b o p]
  exact fold_max_first fun o => ovs (A2 x2) (A4 x4) b o p

/-- The scattered index words. -/
theorem idx85_0 (b : Fin 64) (o : Fin 16) : val_main_v85 x2 x4 (ix3 b o 0) = BitVec.ofNat 32 b.val := by
  have e : val_main_v85 x2 x4 (ix3 b o 0) = Scalar.select (IntOp.cmpi .slt (BitVec.ofNat 32 b.val) 0#32) (IntOp.addi (BitVec.ofNat 32 b.val) (BitVec.ofNat 32 64)) (BitVec.ofNat 32 b.val) := by
    pointwise [val_main_v85, val_main_v84, val_main_v83, val_main_v82, val_main_v76, val_main_v75, val_main_v74, val_main_v73, val_main_v72, val_main_c, val_main_c_5, val_main_v1, val_main_v0]
  rw [e, wrap_ofNat _ _ (by have := b.isLt; omega)]

theorem idx85_1 (b : Fin 64) (o : Fin 16) : val_main_v85 x2 x4 (ix3 b o 1) = BitVec.ofNat 32 (first (ovs (A2 x2) (A4 x4) b o)).val := by
  have e : val_main_v85 x2 x4 (ix3 b o 1) = Scalar.select (IntOp.cmpi .slt (val_main_v68 x2 x4 (ix2 b o)) 0#32) (IntOp.addi (val_main_v68 x2 x4 (ix2 b o)) (BitVec.ofNat 32 8732)) (val_main_v68 x2 x4 (ix2 b o)) := by
    pointwise [val_main_v85, val_main_v84, val_main_v83, val_main_v82, val_main_v81, val_main_v80, val_main_v79, val_main_v78, val_main_v77, val_main_c_6, val_main_c_7]
  rw [e, best_at, wrap_ofNat _ _ (by have := (first (ovs (A2 x2) (A4 x4) b o)).isLt; omega)]

theorem idx100_0 (b : Fin 64) (o : Fin 16) : val_main_v100 x2 x4 (ix3 b o 0) = BitVec.ofNat 32 b.val := by
  have e : val_main_v100 x2 x4 (ix3 b o 0) = Scalar.select (IntOp.cmpi .slt (BitVec.ofNat 32 b.val) 0#32) (IntOp.addi (BitVec.ofNat 32 b.val) (BitVec.ofNat 32 64)) (BitVec.ofNat 32 b.val) := by
    pointwise [val_main_v100, val_main_v99, val_main_v98, val_main_v97, val_main_v91, val_main_v90, val_main_v89, val_main_v88, val_main_v87, val_main_c_8, val_main_c_9, val_main_v1, val_main_v0]
  rw [e, wrap_ofNat _ _ (by have := b.isLt; omega)]

theorem idx100_1 (b : Fin 64) (o : Fin 16) : val_main_v100 x2 x4 (ix3 b o 1) = BitVec.ofNat 32 (first (ovs (A2 x2) (A4 x4) b o)).val := by
  have e : val_main_v100 x2 x4 (ix3 b o 1) = Scalar.select (IntOp.cmpi .slt (val_main_v68 x2 x4 (ix2 b o)) 0#32) (IntOp.addi (val_main_v68 x2 x4 (ix2 b o)) (BitVec.ofNat 32 8732)) (val_main_v68 x2 x4 (ix2 b o)) := by
    pointwise [val_main_v100, val_main_v99, val_main_v98, val_main_v97, val_main_v96, val_main_v95, val_main_v94, val_main_v93, val_main_v92, val_main_c_10, val_main_c_11]
  rw [e, best_at, wrap_ofNat _ _ (by have := (first (ovs (A2 x2) (A4 x4) b o)).isLt; omega)]

/-- The object a prior is matched with. -/
theorem pick_at (b : Fin 64) (p : Fin 8732) :
    val_main_v86 x2 x4 (ix2 b p) = BitVec.ofNat 32 (pickOf (ovs (A2 x2) (A4 x4) b) p).val := by
  have eo (o : Fin 16) : val_main_v71 (F := Ideal) (ix2 b o) = BitVec.ofNat 32 o.val := by
    pointwise [val_main_v71, val_main_v70, val_main_v69]
  unfold val_main_v86 pickOf
  refine (scatter_last _ rfl rfl rfl _ _ _ (fun a o => first (ovs (A2 x2) (A4 x4) a o)) (fun a o => ?_) (fun a o => ?_) b p).trans ?_
  · rw [idx85_0, toInt_word _ (by have := a.isLt; omega)]
  · rw [idx85_1, toInt_word _ (by have := (first (ovs (A2 x2) (A4 x4) a o)).isLt; omega)]
  · split
    · exact eo _
    · exact most_at x2 x4 b p

/-- The overlap a prior is judged by. -/
theorem ov_at (b : Fin 64) (p : Fin 8732) : val_main_v102 x2 x4 (ix2 b p) = ovOf (ovs (A2 x2) (A4 x4) b) p := by
  have eo (o : Fin 16) : val_main_v101 (F := Ideal) (ix2 b o) = (1 : EReal) := by
    have : val_main_v101 (F := Ideal) (ix2 b o) = Ideal.ofBits .f32 0x3F800000#32 := by
      pointwise [val_main_v101, val_main_cst_12]
    rw [this, lit_one]; rfl
  unfold val_main_v102 ovOf
  refine (scatter_last _ rfl rfl rfl _ _ _ (fun a o => first (ovs (A2 x2) (A4 x4) a o)) (fun a o => ?_) (fun a o => ?_) b p).trans ?_
  · rw [idx100_0, toInt_word _ (by have := a.isLt; omega)]
  · rw [idx100_1, toInt_word _ (by have := (first (ovs (A2 x2) (A4 x4) a o)).isLt; omega)]
  · by_cases h : (claimants (ovs (A2 x2) (A4 x4) b) p).Nonempty
    · rw [if_pos h]
      exact (dif_pos h).trans (eo _)
    · rw [if_neg h]
      exact (dif_neg h).trans (top_at x2 x4 b p)

/-- The gathered index words. -/
theorem idx116_0 (b : Fin 64) (p : Fin 8732) : val_main_v116 x2 x4 (ix3 b p 0) = BitVec.ofNat 32 b.val := by
  have e : val_main_v116 x2 x4 (ix3 b p 0) = Scalar.select (IntOp.cmpi .slt (BitVec.ofNat 32 b.val) 0#32) (IntOp.addi (BitVec.ofNat 32 b.val) (BitVec.ofNat 32 64)) (BitVec.ofNat 32 b.val) := by
    pointwise [val_main_v116, val_main_v115, val_main_v114, val_main_v113, val_main_v107, val_main_v106, val_main_v105, val_main_v104, val_main_v103, val_main_c_13, val_main_c_14, val_main_v1, val_main_v0]
  rw [e, wrap_ofNat _ _ (by have := b.isLt; omega)]

theorem idx116_1 (b : Fin 64) (p : Fin 8732) :
    val_main_v116 x2 x4 (ix3 b p 1) = BitVec.ofNat 32 (pickOf (ovs (A2 x2) (A4 x4) b) p).val := by
  have e : val_main_v116 x2 x4 (ix3 b p 1) = Scalar.select (IntOp.cmpi .slt (val_main_v86 x2 x4 (ix2 b p)) 0#32) (IntOp.addi (val_main_v86 x2 x4 (ix2 b p)) (BitVec.ofNat 32 16)) (val_main_v86 x2 x4 (ix2 b p)) := by
    pointwise [val_main_v116, val_main_v115, val_main_v114, val_main_v112, val_main_v111, val_main_v110, val_main_v109, val_main_v108, val_main_c_15, val_main_c_16]
  rw [e, pick_at, wrap_ofNat _ _ (by have := (pickOf (ovs (A2 x2) (A4 x4) b) p).isLt; omega)]

theorem idx134_0 (b : Fin 64) (p : Fin 8732) : val_main_v134 x2 x4 (ix3 b p 0) = BitVec.ofNat 32 b.val := by
  have e : val_main_v134 x2 x4 (ix3 b p 0) = Scalar.select (IntOp.cmpi .slt (BitVec.ofNat 32 b.val) 0#32) (IntOp.addi (BitVec.ofNat 32 b.val) (BitVec.ofNat 32 64)) (BitVec.ofNat 32 b.val) := by
    pointwise [val_main_v134, val_main_v133, val_main_v132, val_main_v131, val_main_v125, val_main_v124, val_main_v123, val_main_v122, val_main_v121, val_main_c_19, val_main_c_20, val_main_v1, val_main_v0]
  rw [e, wrap_ofNat _ _ (by have := b.isLt; omega)]

theorem idx134_1 (b : Fin 64) (p : Fin 8732) :
    val_main_v134 x2 x4 (ix3 b p 1) = BitVec.ofNat 32 (pickOf (ovs (A2 x2) (A4 x4) b) p).val := by
  have e : val_main_v134 x2 x4 (ix3 b p 1) = Scalar.select (IntOp.cmpi .slt (val_main_v86 x2 x4 (ix2 b p)) 0#32) (IntOp.addi (val_main_v86 x2 x4 (ix2 b p)) (BitVec.ofNat 32 16)) (val_main_v86 x2 x4 (ix2 b p)) := by
    pointwise [val_main_v134, val_main_v133, val_main_v132, val_main_v130, val_main_v129, val_main_v128, val_main_v127, val_main_v126, val_main_c_21, val_main_c_22]
  rw [e, pick_at, wrap_ofNat _ _ (by have := (pickOf (ovs (A2 x2) (A4 x4) b) p).isLt; omega)]

/-- The gathered label. -/
theorem label_at (b : Fin 64) (p : Fin 8732) : val_main_v117 x2 x3 x4 (ix2 b p) = A3 x3 b (pickOf (ovs (A2 x2) (A4 x4) b) p) := by
  unfold val_main_v117
  exact gather_label _ _ b p _ (by rw [idx116_0, toInt_word _ (by have := b.isLt; omega)])
    (by rw [idx116_1, toInt_word _ (by have := (pickOf (ovs (A2 x2) (A4 x4) b) p).isLt; omega)])

/-- The gathered box. -/
theorem box_at (b : Fin 64) (p : Fin 8732) (k : Fin 4) :
    val_main_v135 x2 x4 (ix3 b p k) = A2 x2 b (pickOf (ovs (A2 x2) (A4 x4) b) p) k := by
  unfold val_main_v135
  exact gather_box _ _ b p _ k (by rw [idx134_0, toInt_word _ (by have := b.isLt; omega)])
    (by rw [idx134_1, toInt_word _ (by have := (pickOf (ovs (A2 x2) (A4 x4) b) p).isLt; omega)])

/-- A prior's class. -/
theorem cls_at (b : Fin 64) (p : Fin 8732) : val_main_v120 x2 x3 x4 (ix2 b p) = cls (A2 x2) (A3 x3) (A4 x4) b p := by
  have e : val_main_v120 x2 x3 x4 (ix2 b p) = Scalar.select (BitVec.ofBool (decide (val_main_v102 x2 x4 (ix2 b p) < Ideal.ofBits FTy.f32 0x3F000000#32)))
      0#32 (val_main_v117 x2 x3 x4 (ix2 b p)) := by
    pointwise [val_main_v120, val_main_v119, val_main_v118, val_main_cst_17, val_main_call1_v1, val_main_call1_v0, val_main_c_18]
    rfl
  rw [e, ov_at, label_at, lit_half]
  unfold cls clsOf Scalar.select
  by_cases h : ovOf (ovs (A2 x2) (A4 x4) b) p < ((1 / 2 : ℝ) : EReal)
  · rw [if_pos h, decide_eq_true h]; rfl
  · rw [if_neg h, decide_eq_false h]; rfl

/-- Whether a prior is positive. -/
theorem pos_at (b : Fin 64) (p : Fin 8732) : val_main_v164 x2 x3 x4 (ix2 b p) = IntOp.cmpi .ne (cls (A2 x2) (A3 x3) (A4 x4) b p) 0#32 := by
  rw [← cls_at]
  pointwise [val_main_v164, val_main_v163, val_main_c_26]

/-- A test for a positive prior, read as a number. -/
theorem pos_bit (c : BitVec 32) : (FloatOps.uitofp FTy.f32 (IntOp.cmpi CmpIPredicate.ne c 0#32) : Ideal .f32) = posOf c := by
  unfold posOf
  by_cases h : c = 0#32
  · subst h
    rw [if_pos rfl]
    exact (congrArg (fun z : ℕ => ((z : ℝ) : EReal)) (show (IntOp.cmpi CmpIPredicate.ne 0#32 0#32).toNat = 0 by decide)).trans (by norm_num)
  · rw [if_neg h]
    have e : IntOp.cmpi CmpIPredicate.ne c 0#32 = 1#1 := congrArg BitVec.ofBool (bne_iff_ne.mpr h)
    rw [e]
    exact (congrArg (fun z : ℕ => ((z : ℝ) : EReal)) (show (1#1).toNat = 1 by decide)).trans (by norm_num)

theorem div_ten (x : EReal) : Ideal.div x (Ideal.ofBits .f32 0x41200000#32) = x * ((1 / 10 : ℝ) : EReal) := by
  rw [lit_ten]
  exact div_real x 10 (by norm_num)

/-- The location a prior should predict. -/
theorem target_at (b : Fin 64) (p : Fin 8732) (k : Fin 4) :
    val_main_v162 x2 x4 (ix3 b p k) = target (A2 x2 b (pickOf (ovs (A2 x2) (A4 x4) b) p)) (A4 x4 p) k := by
  obtain ⟨g, hg⟩ : ∃ g : Vec Ideal S64x8732x4 .f32, g = val_main_v135 x2 x4 := ⟨_, rfl⟩
  have hb (k : Fin 4) : g (ix3 b p k) = A2 x2 b (pickOf (ovs (A2 x2) (A4 x4) b) p) k := by rw [hg]; exact box_at x2 x4 b p k
  match k with
  | 0 =>
    have e : val_main_v162 x2 x4 (ix3 b p 0) = Ideal.div (Ideal.div (g (ix3 b p 0) + g (ix3 b p 2)) (Ideal.ofBits .f32 0x40000000#32) - x4 (ix2 p 0))
        (Ideal.div (x4 (ix2 p 2)) (Ideal.ofBits .f32 0x41200000#32)) := by
      rw [hg]
      pointwise [val_main_v162, val_main_v154, val_main_v153, val_main_v152, val_main_v151, val_main_cst_24, val_main_v150, val_main_v149, val_main_v148, val_main_v147, val_main_v146, val_main_v145, val_main_v144, val_main_v140, val_main_v139, val_main_cst_23, val_main_v138, val_main_v137, val_main_v136]
    rw [e, hb, hb, div_two, div_ten]; rfl
  | 1 =>
    have e : val_main_v162 x2 x4 (ix3 b p 1) = Ideal.div (Ideal.div (g (ix3 b p 1) + g (ix3 b p 3)) (Ideal.ofBits .f32 0x40000000#32) - x4 (ix2 p 1))
        (Ideal.div (x4 (ix2 p 3)) (Ideal.ofBits .f32 0x41200000#32)) := by
      rw [hg]
      pointwise [val_main_v162, val_main_v154, val_main_v153, val_main_v152, val_main_v151, val_main_cst_24, val_main_v150, val_main_v149, val_main_v148, val_main_v147, val_main_v146, val_main_v145, val_main_v144, val_main_v140, val_main_v139, val_main_cst_23, val_main_v138, val_main_v137, val_main_v136]
    rw [e, hb, hb, div_two, div_ten]; rfl
  | 2 =>
    have e : val_main_v162 x2 x4 (ix3 b p 2) = Ideal.log (Ideal.div (g (ix3 b p 2) - g (ix3 b p 0)) (x4 (ix2 p 2))) * Ideal.ofBits .f32 0x40A00000#32 := by
      rw [hg]
      pointwise [val_main_v162, val_main_v161, val_main_v160, val_main_cst_25, val_main_v159, val_main_v158, val_main_v157, val_main_v156, val_main_v155, val_main_v145, val_main_v144, val_main_v143, val_main_v142, val_main_v141]
    rw [e, hb, hb, lit_five]; rfl
  | 3 =>
    have e : val_main_v162 x2 x4 (ix3 b p 3) = Ideal.log (Ideal.div (g (ix3 b p 3) - g (ix3 b p 1)) (x4 (ix2 p 3))) * Ideal.ofBits .f32 0x40A00000#32 := by
      rw [hg]
      pointwise [val_main_v162, val_main_v161, val_main_v160, val_main_cst_25, val_main_v159, val_main_v158, val_main_v157, val_main_v156, val_main_v155, val_main_v145, val_main_v144, val_main_v143, val_main_v142, val_main_v141]
    rw [e, hb, hb, lit_five]; rfl

end Cert.Proof.Ref
-- ==== Proof.RCe.lean ====
/- The reference's cross-entropies, read at an index. -/
module

public import proofs.«01_k».proof.Proof.RPick
public import Mathlib.Data.BitVec

@[expose] public section

set_option maxRecDepth 16384

noncomputable section

namespace Cert.Proof.Ref

open Idealize.ShloMosaic Idealize.ShloMosaic.TcCoe Cert.ReferenceIdeal Cert.ReferenceIdeal.Read

variable (x1 : Vec Ideal S64x8732x81 .f32) (x2 : Vec Ideal S64x16x4 .f32) (x3 : Vec Ideal S64x16 .i32) (x4 : Vec Ideal S8732x4 .f32)

/-- The gathered logit's index words. -/
theorem idx214_0 (b : Fin 64) (p : Fin 8732) : val_main_v214 x2 x3 x4 (ix3 b p 0) = BitVec.ofNat 32 b.val := by
  have e0 : val_main_v214 x2 x3 x4 (ix3 b p 0) = val_main_v211 (F := Ideal) (ix3 b p 0) := by
    pointwise [val_main_v214]
  have e1 : val_main_v211 (F := Ideal) (ix3 b p 0) = Scalar.select (IntOp.cmpi .slt (BitVec.ofNat 32 b.val) 0#32) (IntOp.addi (BitVec.ofNat 32 b.val) (BitVec.ofNat 32 64)) (BitVec.ofNat 32 b.val) := by
    pointwise [val_main_v211, val_main_v209, val_main_v198, val_main_v197, val_main_v196, val_main_v195, val_main_v194, val_main_c_36, val_main_c_37, val_main_v1, val_main_v0]
  rw [e0, e1, wrap_ofNat _ _ (by have := b.isLt; omega)]

theorem idx214_1 (b : Fin 64) (p : Fin 8732) : val_main_v214 x2 x3 x4 (ix3 b p 1) = BitVec.ofNat 32 p.val := by
  have e0 : val_main_v214 x2 x3 x4 (ix3 b p 1) = val_main_v212 (F := Ideal) (ix3 b p 0) := by
    pointwise [val_main_v214]
  have e1 : val_main_v212 (F := Ideal) (ix3 b p 0) = Scalar.select (IntOp.cmpi .slt (BitVec.ofNat 32 p.val) 0#32) (IntOp.addi (BitVec.ofNat 32 p.val) (BitVec.ofNat 32 8732)) (BitVec.ofNat 32 p.val) := by
    pointwise [val_main_v212, val_main_v210, val_main_v203, val_main_v202, val_main_v201, val_main_v200, val_main_v199, val_main_c_38, val_main_c_39, val_main_v3, val_main_v2]
  rw [e0, e1, wrap_ofNat _ _ (by have := p.isLt; omega)]

theorem idx214_2 (hL : Labelled (A3 x3)) (b : Fin 64) (p : Fin 8732) :
    val_main_v214 x2 x3 x4 (ix3 b p 2) = BitVec.ofNat 32 (cidx (A2 x2) (A3 x3) (A4 x4) b p).val := by
  have e0 : val_main_v214 x2 x3 x4 (ix3 b p 2) = val_main_v213 x2 x3 x4 (ix3 b p 0) := by
    pointwise [val_main_v214]
  have e1 : val_main_v213 x2 x3 x4 (ix3 b p 0) = Scalar.select (IntOp.cmpi .slt (val_main_v120 x2 x3 x4 (ix2 b p)) 0#32) (IntOp.addi (val_main_v120 x2 x3 x4 (ix2 b p)) (BitVec.ofNat 32 81)) (val_main_v120 x2 x3 x4 (ix2 b p)) := by
    pointwise [val_main_v213, val_main_v208, val_main_v207, val_main_v206, val_main_v205, val_main_v204, val_main_c_40, val_main_c_41]
  rw [e0, e1, cls_at, cls_eq _ _ _ hL, wrap_ofNat _ _ (by have := (cidx (A2 x2) (A3 x3) (A4 x4) b p).isLt; omega)]

/-- The gathered logit. -/
theorem logit_at (hL : Labelled (A3 x3)) (b : Fin 64) (p : Fin 8732) :
    val_main_v215 x1 x2 x3 x4 (ix2 b p) = x1 (ix3 b p (cidx (A2 x2) (A3 x3) (A4 x4) b p)) := by
  have hb := b.isLt
  have hp := p.isLt
  have hk := (cidx (A2 x2) (A3 x3) (A4 x4) b p).isLt
  have h0 := (congrArg BitVec.toInt (idx214_0 x2 x3 x4 b p)).trans (toInt_word _ (by omega))
  have h1 := (congrArg BitVec.toInt (idx214_1 x2 x3 x4 b p)).trans (toInt_word _ (by omega))
  have h2 := (congrArg BitVec.toInt (idx214_2 x2 x3 x4 hL b p)).trans (toInt_word _ (by omega))
  unfold val_main_v215
  exact gather_logit _ _ b p _ h0 h1 h2

/-- The largest logit. -/
theorem peak_at (b : Fin 64) (p : Fin 8732) : val_main_v182 x1 (ix2 b p) = peak (A1 x1 b p) := by
  have e : val_main_v182 x1 (ix2 b p) = Finset.univ.fold max (Ideal.ofBits FTy.f32 0xFF800000#32) fun j => x1 (ix3 b p j) := by
    pointwise [val_main_v182, val_main_cst_32]
  rw [e, lit_bot]; rfl

/-- A choice on a comparison below. -/
theorem select_lt (a t d z : EReal) : Scalar.select (Ideal.cmp .olt a t) d z = if a < t then d else z := by
  by_cases h : a < t
  · rw [if_pos h]; unfold Ideal.cmp; rw [decide_eq_true h]; rfl
  · rw [if_neg h]; unfold Ideal.cmp; rw [decide_eq_false h]; rfl

/-- The bound every finite logit stays below. -/
theorem bound_at (b : Fin 64) (p : Fin 8732) : val_main_v184 (F := Ideal) (ix2 b p) = (⊤ : EReal) :=
  (val_main_v184_apply _).trans ((val_main_cst_33_apply _).trans lit_top)

/-- The shift in place of an infinite one. -/
theorem zero_at (b : Fin 64) (p : Fin 8732) : val_main_call4_v1 (F := Ideal) (ix2 b p) = (0 : EReal) :=
  (val_main_call4_v1_apply _).trans ((val_main_call4_v0_apply _).trans ((val_main_cst_34_apply _).trans lit_zero))

/-- The shift of the exponents. -/
theorem shift_at (b : Fin 64) (p : Fin 8732) :
    val_main_v186 x1 (ix2 b p) = if max (peak (A1 x1 b p)) (-peak (A1 x1 b p)) < ⊤ then peak (A1 x1 b p) else 0 := by
  rw [← peak_at, val_main_v186_apply, val_main_v185_apply, val_main_v183_apply, bound_at, zero_at]
  generalize val_main_v182 x1 (ix2 b p) = d
  exact select_lt _ _ _ _

/-- The cross-entropy, before infinite ones are dropped. -/
theorem raw_at (b : Fin 64) (p : Fin 8732) :
    val_main_v216 x1 x2 x3 x4 (ix2 b p) = Ideal.log (∑ j, Ideal.exp (x1 (ix3 b p j) - val_main_v186 x1 (ix2 b p))) + val_main_v186 x1 (ix2 b p)
      - val_main_v215 x1 x2 x3 x4 (ix2 b p) := by
  pointwise [val_main_v216, val_main_v193, val_main_v192, val_main_v191, val_main_cst_35, val_main_v190, val_main_v189, val_main_v188, val_main_v187]

/-- Infinite cross-entropies dropped. -/
theorem drop_at (b : Fin 64) (p : Fin 8732) :
    val_main_v220 x1 x2 x3 x4 (ix2 b p) = dropInf (val_main_v216 x1 x2 x3 x4 (ix2 b p)) := by
  have h5 : val_main_call5_v1 (F := Ideal) (ix2 b p) = (⊤ : EReal) :=
    (val_main_call5_v1_apply _).trans ((val_main_call5_cst_apply _).trans lit_top)
  have h6 : val_main_call6_v1 (F := Ideal) (ix2 b p) = (0 : EReal) :=
    (val_main_call6_v1_apply _).trans ((val_main_call6_v0_apply _).trans ((val_main_cst_42_apply _).trans lit_zero))
  rw [val_main_v220_apply, val_main_v219_apply, val_main_v218_apply, val_main_v217_apply, val_main_call5_v0_apply, h5, h6]
  generalize val_main_v216 x1 x2 x3 x4 (ix2 b p) = d
  exact select_dropInf d

/-- A prior's cross-entropy. -/
theorem ces_at (hL : Labelled (A3 x3)) (b : Fin 64) (p : Fin 8732) :
    val_main_v220 x1 x2 x3 x4 (ix2 b p) = ces (A1 x1) (A2 x2) (A3 x3) (A4 x4) b p := by
  rw [drop_at, raw_at, logit_at x1 x2 x3 x4 hL]
  exact ceOf_shift (A1 x1 b p) _ _ (shift_at x1 b p)

end Cert.Proof.Ref
-- ==== Proof.RLoss.lean ====
/- The reference's sums and its loss. -/
module

public import proofs.«01_k».proof.Proof.RPick
public import Mathlib.Data.BitVec

@[expose] public section

set_option maxRecDepth 16384

noncomputable section

namespace Cert.Proof.Ref

open Idealize.ShloMosaic Idealize.ShloMosaic.TcCoe Cert.ReferenceIdeal Cert.ReferenceIdeal.Read

variable (x0 : Vec Ideal S64x8732x4 .f32) (x1 : Vec Ideal S64x8732x81 .f32) (x2 : Vec Ideal S64x16x4 .f32) (x3 : Vec Ideal S64x16 .i32) (x4 : Vec Ideal S8732x4 .f32)

/-- An image's count of positive priors. -/
theorem count_at (b : Fin 64) : val_main_v222 x2 x3 x4 (ix1 b) = cnt (A2 x2) (A3 x3) (A4 x4) b := by
  have e : val_main_v222 x2 x3 x4 (ix1 b) = Finset.univ.fold IntOp.addi 0#32 fun p => BitVec.setWidth 32 (val_main_v164 x2 x3 x4 (ix2 b p)) := by
    pointwise [val_main_v222, val_main_v221, val_main_c_43]
  rw [e]
  refine (Finset.sum_eq_fold (s := Finset.univ) _).symm.trans (Finset.sum_congr rfl fun p _ => ?_)
  rw [pos_at, ne_word]

/-- The batch's count. -/
theorem total_at (i : S_.Idx) : val_main_v259 x2 x3 x4 i = ∑ b, cnt (A2 x2) (A3 x3) (A4 x4) b := by
  have e : val_main_v259 x2 x3 x4 i = Finset.univ.fold IntOp.addi 0#32 fun b => val_main_v222 x2 x3 x4 (ix1 b) := by
    pointwise [val_main_v259, val_main_c_56]
  rw [e]
  exact (Finset.sum_eq_fold (s := Finset.univ) _).symm.trans (Finset.sum_congr rfl fun b _ => count_at x2 x3 x4 b)

/-- The batch's count, summed at once. -/
theorem whole_at (i : S_.Idx) : val_main_v166 x2 x3 x4 i = ∑ b, cnt (A2 x2) (A3 x3) (A4 x4) b := by
  have e : val_main_v166 x2 x3 x4 i = Finset.univ.fold IntOp.addi 0#32 fun k : Fin 64 × Fin 8732 => BitVec.setWidth 32 (val_main_v164 x2 x3 x4 (ix2 k.1 k.2)) := by
    pointwise [val_main_v166, val_main_v165, val_main_c_27]
  rw [e]
  refine (Finset.sum_eq_fold (s := Finset.univ) _).symm.trans ?_
  rw [Fintype.sum_prod_type]
  refine Finset.sum_congr rfl fun b _ => Finset.sum_congr rfl fun p _ => ?_
  rw [pos_at, ne_word]

/-- The location errors' sum. -/
theorem locs_at (i : S_.Idx) : val_main_v173 x0 x2 x3 x4 i = ∑ b, locs (A0 x0) (A2 x2) (A3 x3) (A4 x4) b := by
  have e : val_main_v173 x0 x2 x3 x4 i = ∑ b : Fin 64, ∑ p : Fin 8732, ∑ k : Fin 4,
      max (x0 (ix3 b p k) - val_main_v162 x2 x4 (ix3 b p k)) (-(x0 (ix3 b p k) - val_main_v162 x2 x4 (ix3 b p k)))
        * (FloatOps.uitofp FTy.f32 (val_main_v164 x2 x3 x4 (ix2 b p)) : Ideal .f32) := by
    pointwise [val_main_v173, val_main_v172, val_main_v171, val_main_v170, val_main_v169, val_main_v168, val_main_v167, val_main_cst_28]
    rfl
  rw [e]
  refine Finset.sum_congr rfl fun b _ => Finset.sum_congr rfl fun p _ => ?_
  simp only [target_at, pos_at, pos_bit]
  rw [Fin.sum_univ_four]
  unfold posOf
  split
  · simp only [mul_zero, add_zero]
  · simp only [mul_one]
    rfl

end Cert.Proof.Ref
-- ==== Proof.RHard.lean ====
/- The reference's sort, its hard negatives and its loss. -/
module

public import proofs.«01_k».proof.Proof.RCe
public import proofs.«01_k».proof.Proof.RLoss
public import Idealize.ShloMosaic.Lib.SortFacts

@[expose] public section

set_option maxRecDepth 16384

noncomputable section

namespace Cert.Proof.Ref

open Idealize.ShloMosaic Idealize.ShloMosaic.TcCoe Cert.ReferenceIdeal Cert.ReferenceIdeal.Read

/-- The sort's comparison is the order of the numbers. -/
theorem compare_lt (l r : EReal) : (comparator_f32_d1 (F := Ideal) l r) = BitVec.ofBool (decide (l < r)) := by
  have hs (d q : EReal) : Scalar.select (Ideal.cmp .une d d) q (Scalar.select (Ideal.cmp .oeq d 0) 0 d) = d := by
    unfold Ideal.cmp
    rw [decide_eq_false (fun h : d ≠ d => h rfl)]
    by_cases h : d = 0
    · rw [decide_eq_true h]; exact h.symm
    · rw [decide_eq_false h]; rfl
  unfold comparator_f32_d1
  generalize hq : (FloatOps.ofBits .f32 0x7FC00000#32 : Ideal .f32) = q
  rw [show (FloatOps.ofBits .f32 0x00000000#32 : Ideal .f32) = (0 : EReal) from lit_zero]
  exact congrArg₂ (fun a c : EReal => BitVec.ofBool (decide (a < c))) (hs l q) (hs r q)

/-- The order of an image's places by their entries. -/
def before (x : Vec Ideal S64x8732 .f32) (b : Fin 64) (k k' : Fin 8732) : Bool :=
  comparator_f32_d1 (F := Ideal) (x (ix2 b k)) (x (ix2 b k')) == 1#1

theorem flag_false (a c : EReal) : (comparator_f32_d1 (F := Ideal) a c == 1#1) = false ↔ c ≤ a := by
  rw [compare_lt, ← not_lt]
  by_cases h : a < c
  · rw [decide_eq_true h]; exact ⟨fun e => (nomatch e), fun e => absurd h e⟩
  · rw [decide_eq_false h]; exact ⟨fun _ => h, fun _ => rfl⟩

/-- A sort leaves no later entry below an earlier one. -/
theorem sorted_le {n : ℕ} (f : Fin n → EReal) (i j : Fin n) (hij : i < j) :
    f (sortedFrom (fun k k' => comparator_f32_d1 (F := Ideal) (f k) (f k') == 1#1) i)
      ≤ f (sortedFrom (fun k k' => comparator_f32_d1 (F := Ideal) (f k) (f k') == 1#1) j) :=
  (flag_false _ _).mp (sortedFrom_noInversion (fun k k' => comparator_f32_d1 (F := Ideal) (f k) (f k') == 1#1)
    (fun k k' => comparator_f32_d1 (F := Ideal) (f k) (f k') == 1#1)
    (fun a c h => (flag_false _ _).mpr (by
      by_contra hc
      rw [(flag_false _ _).mpr (not_le.mp hc).le] at h
      exact nomatch h))
    (fun _ _ h => h)
    (fun _ _ _ h h' => (flag_false _ _).mpr (((flag_false _ _).mp h').trans ((flag_false _ _).mp h))) i j hij)

/-- The places a sort draws its entries from, a permutation. -/
def sortPerm {n : ℕ} (R : Fin n → Fin n → Bool) : Equiv.Perm (Fin n) :=
  Equiv.ofBijective (sortedFrom R) ⟨sortedFrom_injective _, sortedFrom_surjective _⟩

theorem sortPerm_apply {n : ℕ} (R : Fin n → Fin n → Bool) (r : Fin n) : sortPerm R r = sortedFrom R r := rfl

/-- The places an image's sorted entries are drawn from. -/
def places (x : Vec Ideal S64x8732 .f32) (b : Fin 64) : Equiv.Perm (Fin 8732) := sortPerm (before x b)

theorem places_apply (x : Vec Ideal S64x8732 .f32) (b : Fin 64) (r : Fin 8732) :
    places x b r = sortedFrom (fun k k' => comparator_f32_d1 (F := Ideal) (x (ix2 b k)) (x (ix2 b k')) == 1#1) r := by
  unfold places
  rw [sortPerm_apply]
  unfold before
  rfl

theorem places_monotone (x : Vec Ideal S64x8732 .f32) (b : Fin 64) :
    Monotone fun r => (x (ix2 b (places x b r)) : EReal) := by
  intro i j hij
  rcases hij.eq_or_lt with rfl | hij
  · exact le_rfl
  dsimp only
  rw [places_apply, places_apply]
  exact sorted_le (fun k => x (ix2 b k)) i j hij

/-- A sort along the second axis, read at an index. -/
theorem sort_ix2 {n m : ℕ} {α : Type} (cmp : α → α → BitVec 1) (x : (⟨2, ![n, m]⟩ : Shape).Idx → α) (b : Fin n) (r : Fin m) :
    Host.sort ⟨2, ![n, m]⟩ 1 cmp x (ix2 b r) = x (ix2 b (sortedFrom (fun k k' => cmp (x (ix2 b k)) (x (ix2 b k')) == 1#1) r)) := by
  have a (k : Fin m) : (ix2 b r : (⟨2, ![n, m]⟩ : Shape).Idx).along (1 : Fin 2) k = ix2 b k := by
    funext a
    fin_cases a <;> rfl
  have hf : (fun k : Fin m => x ((ix2 b r : (⟨2, ![n, m]⟩ : Shape).Idx).along (1 : Fin 2) k)) = fun k => x (ix2 b k) :=
    funext fun k => congrArg x (a k)
  unfold Host.sort
  refine (dif_pos (show 1 < 2 by decide)).trans ?_
  refine Eq.trans ?_ (congrArg (fun f : Fin m → α => x (ix2 b (sortedFrom (fun k k' => cmp (f k) (f k') == 1#1) r))) hf)
  exact congrArg x (a _)

theorem sort_at (x : Vec Ideal S64x8732 .f32) (b : Fin 64) (r : Fin 8732) :
    Host.sort S64x8732 1 (comparator_f32_d1 (F := Ideal)) x (ix2 b r) = x (ix2 b (places x b r)) := by
  rw [places_apply]
  exact sort_ix2 (comparator_f32_d1 (F := Ideal)) x b r

variable (x0 : Vec Ideal S64x8732x4 .f32) (x1 : Vec Ideal S64x8732x81 .f32) (x2 : Vec Ideal S64x16x4 .f32) (x3 : Vec Ideal S64x16 .i32) (x4 : Vec Ideal S8732x4 .f32)

/-- A choice on a test for a positive prior. -/
theorem select_ne (c : BitVec 32) (y z : EReal) : Scalar.select (IntOp.cmpi .ne c 0#32) z y = if c = 0#32 then y else z := by
  by_cases h : c = 0#32
  · subst h; rfl
  · rw [if_neg h]
    have : IntOp.cmpi CmpIPredicate.ne c 0#32 = 1#1 := by
      unfold IntOp.cmpi
      rw [show (c != 0#32) = true from bne_iff_ne.mpr h]; rfl
    rw [this]; rfl

/-- A choice on a flag. -/
theorem select_flag (c : Bool) (y z : EReal) : Scalar.select (BitVec.ofBool c) y z = if c then y else z := by
  cases c <;> rfl

/-- The cross-entropies of the negatives. -/
theorem negs_at (hL : Labelled (A3 x3)) (b : Fin 64) (p : Fin 8732) :
    val_main_v228 x1 x2 x3 x4 (ix2 b p) = negs (A1 x1) (A2 x2) (A3 x3) (A4 x4) b p := by
  have h7 : val_main_call7_v1 (F := Ideal) (ix2 b p) = (0 : EReal) :=
    (val_main_call7_v1_apply _).trans ((val_main_call7_v0_apply _).trans ((val_main_cst_46_apply _).trans lit_zero))
  rw [val_main_v228_apply, h7, ces_at x1 x2 x3 x4 hL, pos_at]
  exact select_ne _ _ _

/-- The sum of the positives' cross-entropies. -/
theorem cepos_at (hL : Labelled (A3 x3)) (i : S_.Idx) :
    val_main_v227 x1 x2 x3 x4 i = ∑ b, cepos (A1 x1) (A2 x2) (A3 x3) (A4 x4) b := by
  have e : val_main_v227 x1 x2 x3 x4 i = ∑ b : Fin 64, ∑ p : Fin 8732,
      val_main_v220 x1 x2 x3 x4 (ix2 b p) * (FloatOps.uitofp FTy.f32 (val_main_v164 x2 x3 x4 (ix2 b p)) : Ideal .f32) := by
    pointwise [val_main_v227, val_main_v226, val_main_v225, val_main_cst_45]
  rw [e]
  refine Finset.sum_congr rfl fun b _ => Finset.sum_congr rfl fun p _ => ?_
  rw [ces_at x1 x2 x3 x4 hL, pos_at, pos_bit]

/-- The order the reference puts the priors of an image in. -/
def ranks (b : Fin 64) : Equiv.Perm (Fin 8732) := places (val_main_v229 x1 x2 x3 x4) b

/-- The sorted row, greatest first. -/
theorem sorted_at (hL : Labelled (A3 x3)) (b : Fin 64) (r : Fin 8732) :
    val_main_v231 x1 x2 x3 x4 (ix2 b r) = negs (A1 x1) (A2 x2) (A3 x3) (A4 x4) b (ranks x1 x2 x3 x4 b r) := by
  rw [val_main_v231_apply, show val_main_v230 x1 x2 x3 x4 (ix2 b r) = val_main_v229 x1 x2 x3 x4 (ix2 b (ranks x1 x2 x3 x4 b r)) from
    sort_at _ b r, val_main_v229_apply, negs_at x1 x2 x3 x4 hL]
  exact neg_neg _

/-- The order is from the greatest to the least. -/
theorem ranks_antitone (hL : Labelled (A3 x3)) (b : Fin 64) :
    Antitone (negs (A1 x1) (A2 x2) (A3 x3) (A4 x4) b ∘ ranks x1 x2 x3 x4 b) := by
  intro i j hij
  have h := places_monotone (val_main_v229 x1 x2 x3 x4) b hij
  have e (r : Fin 8732) : val_main_v229 x1 x2 x3 x4 (ix2 b (ranks x1 x2 x3 x4 b r))
      = -negs (A1 x1) (A2 x2) (A3 x3) (A4 x4) b (ranks x1 x2 x3 x4 b r) := by
    rw [val_main_v229_apply, negs_at x1 x2 x3 x4 hL]; rfl
  have h' : -negs (A1 x1) (A2 x2) (A3 x3) (A4 x4) b (ranks x1 x2 x3 x4 b i) ≤ -negs (A1 x1) (A2 x2) (A3 x3) (A4 x4) b (ranks x1 x2 x3 x4 b j) := by
    rw [← e, ← e]; exact h
  exact EReal.neg_le_neg_iff.mp h'

/-- The test for a place among the hard negatives. -/
theorem within_at (b : Fin 64) (r : Fin 8732) : val_main_v237 x2 x3 x4 (ix2 b r)
    = BitVec.ofBool ((BitVec.ofNat 32 r.val).slt (IntOp.muli 3#32 (cnt (A2 x2) (A3 x3) (A4 x4) b))) := by
  rw [← count_at]
  have e : val_main_v237 x2 x3 x4 (ix2 b r) = IntOp.cmpi .slt (BitVec.ofNat 32 r.val) (IntOp.muli 3#32 (val_main_v222 x2 x3 x4 (ix1 b))) := by
    pointwise [val_main_v237, val_main_v236, val_main_v235, val_main_v234, val_main_v233, val_main_v232, val_main_v224, val_main_v223, val_main_c_44]
  rw [e]; rfl

/-- The least hard negative. -/
theorem least_at (b : Fin 64) : val_main_v239 x1 x2 x3 x4 (ix1 b) = Finset.univ.fold min ⊤ fun r : Fin 8732 =>
    if (BitVec.ofNat 32 r.val).slt (IntOp.muli 3#32 (cnt (A2 x2) (A3 x3) (A4 x4) b)) then val_main_v231 x1 x2 x3 x4 (ix2 b r) else (⊤ : EReal) := by
  have e : val_main_v239 x1 x2 x3 x4 (ix1 b) = Finset.univ.fold min (Ideal.ofBits FTy.f32 0x7F800000#32) fun r => val_main_v238 x1 x2 x3 x4 (ix2 b r) := by
    pointwise [val_main_v239, val_main_cst_48]
  rw [e, lit_top]
  refine congrArg (fun f => Finset.univ.fold min (⊤ : EReal) f) (funext fun r => ?_)
  have h9 : val_main_call9_v1 (F := Ideal) (ix2 b r) = (⊤ : EReal) :=
    (val_main_call9_v1_apply _).trans ((val_main_call9_v0_apply _).trans ((val_main_cst_47_apply _).trans lit_top))
  rw [val_main_v238_apply, h9, within_at]
  exact select_flag _ _ _

/-- The greatest entry of an image. -/
theorem greatest_at (b : Fin 64) : val_main_v241 x1 x2 x3 x4 (ix1 b) = Finset.univ.fold max ⊥ fun p : Fin 8732 => val_main_v228 x1 x2 x3 x4 (ix2 b p) := by
  have e : val_main_v241 x1 x2 x3 x4 (ix1 b) = Finset.univ.fold max (Ideal.ofBits FTy.f32 0xFF800000#32) fun p => val_main_v228 x1 x2 x3 x4 (ix2 b p) := by
    pointwise [val_main_v241, val_main_cst_49]
  rw [e, lit_bot]

/-- The least hard negative rounded up to the resolution. -/
theorem rounded_at (b : Fin 64) (r : Fin 8732) : val_main_v254 x1 x2 x3 x4 (ix2 b r)
    = Ideal.liftRound Int.ceil (Ideal.div (val_main_v239 x1 x2 x3 x4 (ix1 b) + ((1 : ℝ) : EReal))
        (Ideal.div (val_main_v241 x1 x2 x3 x4 (ix1 b) + ((1 : ℝ) : EReal)) ((1099511627776 : ℝ) : EReal)))
      * Ideal.div (val_main_v241 x1 x2 x3 x4 (ix1 b) + ((1 : ℝ) : EReal)) ((1099511627776 : ℝ) : EReal) - ((1 : ℝ) : EReal) := by
  have h2 : val_main_v254 x1 x2 x3 x4 (ix2 b r) = val_main_v253 x1 x2 x3 x4 (ix2 b 0) := by pointwise [val_main_v254]
  have hl : val_main_v240 x1 x2 x3 x4 (ix2 b 0) = val_main_v239 x1 x2 x3 x4 (ix1 b) := by pointwise [val_main_v240]
  have hg : val_main_v242 x1 x2 x3 x4 (ix2 b 0) = val_main_v241 x1 x2 x3 x4 (ix1 b) := by pointwise [val_main_v242]
  have c1 : val_main_v243 (F := Ideal) (ix2 b 0) = ((1 : ℝ) : EReal) := (val_main_v243_apply _).trans ((val_main_cst_50_apply _).trans lit_one)
  have c2 : val_main_v245 (F := Ideal) (ix2 b 0) = ((1099511627776 : ℝ) : EReal) := (val_main_v245_apply _).trans ((val_main_cst_51_apply _).trans lit_res)
  have c3 : val_main_v247 (F := Ideal) (ix2 b 0) = ((1 : ℝ) : EReal) := (val_main_v247_apply _).trans ((val_main_cst_52_apply _).trans lit_one)
  have c4 : val_main_v252 (F := Ideal) (ix2 b 0) = ((1 : ℝ) : EReal) := (val_main_v252_apply _).trans ((val_main_cst_53_apply _).trans lit_one)
  rw [h2, val_main_v253_apply, val_main_v251_apply, val_main_v250_apply, val_main_v249_apply, val_main_v248_apply, val_main_v246_apply,
    val_main_v244_apply, hl, hg, c1, c2, c3, c4]
  rfl

/-- The sum over the hard negatives. -/
theorem hard_at (hL : Labelled (A3 x3)) (i : S_.Idx) : val_main_v257 x1 x2 x3 x4 i
    = ∑ b, hardRow (negs (A1 x1) (A2 x2) (A3 x3) (A4 x4) b) (negs (A1 x1) (A2 x2) (A3 x3) (A4 x4) b ∘ ranks x1 x2 x3 x4 b) (cnt (A2 x2) (A3 x3) (A4 x4) b) := by
  have e : val_main_v257 x1 x2 x3 x4 i = ∑ b : Fin 64, ∑ r : Fin 8732, val_main_v256 x1 x2 x3 x4 (ix2 b r) := by
    pointwise [val_main_v257, val_main_cst_55]
  rw [e]
  unfold hardRow
  refine Finset.sum_congr rfl fun b _ => Finset.sum_congr rfl fun r _ => ?_
  have h10 : val_main_call10_v1 (F := Ideal) (ix2 b r) = (0 : EReal) :=
    (val_main_call10_v1_apply _).trans ((val_main_call10_v0_apply _).trans ((val_main_cst_54_apply _).trans lit_zero))
  rw [val_main_v256_apply, h10, val_main_v255_apply, within_at, rounded_at, least_at, greatest_at]
  simp only [sorted_at x1 x2 x3 x4 hL, negs_at x1 x2 x3 x4 hL]
  exact select_flag _ _ _

/-- The location loss. -/
theorem loc_at (i : S_.Idx) : val_main_v181 x0 x2 x3 x4 i = dropInf (Ideal.div (∑ b, locs (A0 x0) (A2 x2) (A3 x3) (A4 x4) b)
    (FloatOps.sitofp (F := Ideal) FTy.f32 (IntOp.maxsi (IntOp.muli (∑ b, cnt (A2 x2) (A3 x3) (A4 x4) b) 4#32) 1#32))) := by
  have h2 : val_main_call2_cst (F := Ideal) i = (⊤ : EReal) := (val_main_call2_cst_apply _).trans lit_top
  have h3 : val_main_call3_v0 (F := Ideal) i = (0 : EReal) := (val_main_call3_v0_apply _).trans ((val_main_cst_31_apply _).trans lit_zero)
  have h : val_main_v177 x0 x2 x3 x4 i = Ideal.div (∑ b, locs (A0 x0) (A2 x2) (A3 x3) (A4 x4) b)
      (FloatOps.sitofp (F := Ideal) FTy.f32 (IntOp.maxsi (IntOp.muli (∑ b, cnt (A2 x2) (A3 x3) (A4 x4) b) 4#32) 1#32)) := by
    rw [val_main_v177_apply, val_main_v176_apply, val_main_v175_apply, val_main_v174_apply, locs_at, whole_at]
    rfl
  rw [← h, val_main_v181_apply, val_main_v180_apply, val_main_v179_apply, val_main_v178_apply, val_main_call2_v0_apply, h2, h3]
  generalize val_main_v177 x0 x2 x3 x4 i = d
  exact select_dropInf d

/-- The reference's result is the loss of its arguments. -/
theorem reference_loss (hL : Labelled (A3 x3)) (i : S_.Idx) : val_main_v264 x0 x1 x2 x3 x4 i
    = loss (A0 x0) (A1 x1) (A2 x2) (A3 x3) (A4 x4) (ranks x1 x2 x3 x4) := by
  have h1 : val_main_cst_58 (F := Ideal) i = (1 : EReal) := (val_main_cst_58_apply _).trans (lit_one.trans EReal.coe_one)
  rw [val_main_v264_apply, val_main_v263_apply, val_main_v262_apply, val_main_v261_apply, val_main_v260_apply, val_main_v258_apply,
    hard_at x1 x2 x3 x4 hL, cepos_at x1 x2 x3 x4 hL, total_at, loc_at, h1]
  unfold loss lossOf
  exact congrArg₂ (fun a c : EReal => a + c) rfl (one_mul _)

end Cert.Proof.Ref
-- ==== Proof.Labels.lean ====
/- The labels' range, from the precondition. -/
module

public import proofs.«01_k».proof.Pre_labels_in_range
public import proofs.«01_k».proof.Proof.Loss

@[expose] public section

noncomputable section

namespace Cert.Proof

open Idealize.ShloMosaic

/-- The precondition's one broadcast fits its shapes. -/
theorem labels_facts : Cert.Pre_labels_in_range.Facts := ⟨by decide⟩

/-- A word from one on and below eighty-one, read signed, is below eighty-one read unsigned. -/
theorem word_lt (w : BitVec 32) (h : IntOp.andi (IntOp.cmpi .sge w 1#32) (IntOp.cmpi .slt w 81#32) = 1#1) : w.toNat < 81 := by
  have e : BitVec.ofBool ((1#32).sle w) &&& BitVec.ofBool (w.slt 81#32) = 1#1 := h
  rcases h1 : (1#32).sle w with _ | _
  · rw [h1] at e; exfalso; revert e; cases w.slt 81#32 <;> decide
  rcases h2 : w.slt 81#32 with _ | _
  · rw [h1, h2] at e; exact absurd e (by decide)
  rw [BitVec.sle_eq_decide, decide_eq_true_eq, show (1#32).toInt = 1 from rfl] at h1
  rw [BitVec.slt_eq_decide, decide_eq_true_eq, show (81#32).toInt = 81 from rfl] at h2
  rw [BitVec.toInt_eq_toNat_cond] at h1 h2
  split at h1 <;> omega

/-- The precondition bounds every label. -/
theorem labelled [Cert.Pre_labels_in_range.Facts] (x0 : FVec Ideal Cert.Pre_labels_in_range.S64x8732x4 .f32)
    (x1 : FVec Ideal Cert.Pre_labels_in_range.S64x8732x81 .f32) (x2 : FVec Ideal Cert.Pre_labels_in_range.S64x16x4 .f32)
    (x3 : IVec Cert.Pre_labels_in_range.S64x16 32) (x4 : FVec Ideal Cert.Pre_labels_in_range.S8732x4 .f32)
    (h : Cert.Pre_labels_in_range.fn (F := Ideal) x0 x1 x2 x3 x4 = fun _ => 1#1) : Labelled fun b o => x3 (ix2 b o) :=
  fun b o => word_lt _ (congrFun h (ix2 b o))

end Cert.Proof
-- ==== Proof.Close.lean ====
/- How far the sum over the hard negatives lies from the unrounded one. -/
module

public import proofs.«01_k».proof.Proof.KMine

@[expose] public section

noncomputable section

namespace Cert.Proof

open Idealize.ShloMosaic

/-- The sum over the hard negatives is the sum over the same places of the sorted row with each entry raised by less than
    one step of the resolution, `(M + 1) / 2 ^ 40` for `M` the greatest of the row; no entry is lowered. -/
theorem hardRow_close (y : Fin 8732 → ℝ) (hy : ∀ p, 0 ≤ y p) (σ : Equiv.Perm (Fin 8732)) (n : BitVec 32) :
    ∃ (M : ℝ) (d : Fin 8732 → ℝ), (Finset.univ.fold max ⊥ fun p : Fin 8732 => (y p : EReal)) = (M : EReal) ∧
      (∀ r, 0 ≤ d r ∧ d r < (M + 1) / 2 ^ 40) ∧
      hardRow (fun p => (y p : EReal)) (fun r => (y (σ r) : EReal)) n
        = ((∑ r : Fin 8732, if (BitVec.ofNat 32 r.val).slt (IntOp.muli (3#32) n) then y (σ r) + d r else 0 : ℝ) : EReal) := by
  obtain ⟨M, hM, hMy⟩ := fold_max_real y
  have hw : 0 < (M + 1) / 2 ^ 40 := div_pos (by linarith [hMy 0, hy 0]) (by positivity)
  generalize hsel : (fun r : Fin 8732 => (BitVec.ofNat 32 r.val).slt (IntOp.muli (3#32) n)) = sel
  have hs (r : Fin 8732) : (BitVec.ofNat 32 r.val).slt (IntOp.muli (3#32) n) = sel r := congrFun hsel r
  unfold hardRow
  simp only [hs]
  by_cases hex : ∃ r, sel r = true
  · obtain ⟨q, hq⟩ := hex
    obtain ⟨r, hr, hmin⟩ := Finset.exists_min_image (Finset.univ.filter fun r => sel r = true) (fun r => y (σ r))
      ⟨q, Finset.mem_filter.mpr ⟨Finset.mem_univ _, hq⟩⟩
    have hrs : sel r = true := (Finset.mem_filter.mp hr).2
    have hle (u : Fin 8732) (hu : sel u = true) : y (σ r) ≤ y (σ u) := hmin u (Finset.mem_filter.mpr ⟨Finset.mem_univ _, hu⟩)
    have hleast : (Finset.univ.fold min ⊤ fun q : Fin 8732 => if sel q then (y (σ q) : EReal) else ⊤) = (y (σ r) : EReal) := by
      refine le_antisymm ?_ ?_
      · rw [Finset.fold_min_le]
        exact .inr ⟨r, Finset.mem_univ _, by rw [if_pos hrs]⟩
      · rw [Finset.le_fold_min]
        refine ⟨le_top, fun u _ => ?_⟩
        split_ifs with hu
        · exact EReal.coe_le_coe_iff.mpr (hle u hu)
        · exact le_top
    obtain ⟨f, hf⟩ : ∃ f : ℝ, f = (⌈(y (σ r) + 1) / ((M + 1) / 2 ^ 40)⌉ : ℝ) * ((M + 1) / 2 ^ 40) - 1 := ⟨_, rfl⟩
    have hfu : f < y (σ r) + (M + 1) / 2 ^ 40 := by
      have := mul_lt_mul_of_pos_right (Int.ceil_lt_add_one ((y (σ r) + 1) / ((M + 1) / 2 ^ 40))) hw
      rw [add_mul, div_mul_cancel₀ _ hw.ne'] at this
      rw [hf]; linarith
    refine ⟨M, fun u => if sel u then max (y (σ u)) f - y (σ u) else 0, hM, fun u => ?_, ?_⟩
    · by_cases hu : sel u = true
      · simp only [hu, if_true]
        refine ⟨sub_nonneg.mpr (le_max_left _ _), ?_⟩
        rw [sub_lt_iff_lt_add]
        exact max_lt (by linarith) (by linarith [hle u hu])
      · simp only [hu]
        exact ⟨le_rfl, hw⟩
    · rw [hleast, hM, ← EReal.coe_add, ← EReal.coe_add, div_coe _ _ (by norm_num),
        show (1099511627776 : ℝ) = 2 ^ 40 by norm_num, div_coe _ _ hw.ne',
        show Ideal.liftRound Int.ceil (((y (σ r) + 1) / ((M + 1) / 2 ^ 40) : ℝ) : EReal) * (((M + 1) / 2 ^ 40 : ℝ) : EReal)
          - ((1 : ℝ) : EReal) = (f : EReal) by rw [hf, EReal.coe_sub, EReal.coe_mul]; rfl, coe_sum]
      refine Finset.sum_congr rfl fun u _ => ?_
      by_cases hu : sel u = true
      · simp only [hu, if_true]
        rw [add_sub_cancel]
        exact (EReal.coe_strictMono.monotone.map_max).symm
      · simp only [hu]; rfl
  · have hn (u : Fin 8732) : sel u = false := by
      rcases h : sel u with _ | _
      · rfl
      · exact absurd ⟨u, h⟩ hex
    refine ⟨M, fun _ => 0, hM, fun _ => ⟨le_rfl, hw⟩, ?_⟩
    rw [coe_sum]
    exact Finset.sum_congr rfl fun u _ => by rw [hn u]; rfl

end Cert.Proof
-- ==== Proof.lean ====
/- The proof of the claim: the three programs' frames, the named constant, and the equality of the two losses. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.KValue
public import proofs.«01_k».proof.Proof.RHard
public import proofs.«01_k».proof.Proof.Labels
public import proofs.«01_k».proof.Proof.Close
public import Idealize.ShloMosaic.Adequacy
public import Idealize.ShloMosaic.Init
public import Idealize.ShloMosaic.Lib.Quiescent

@[expose] public section

noncomputable section

namespace Cert.Proof

open Idealize.ShloMosaic Idealize.SL.Sem

instance : Cert.Pre_labels_in_range.Facts := labels_facts

/-- The reference ends with its arguments unchanged. -/
theorem reference_frame : quiescent_ReferenceIdeal :=
  fun m ρ _ => (θ_run _ _ _).mono (fun _ h => ⟨fun c => (h c).2, sem_eq_zero_of_no_sems rfl _⟩) (Cert.ReferenceIdeal.Value.run m ρ)

/-- For labels in range, the kernel and the reference end with the same loss. -/
theorem value : algebraic_KernelIdeal_ReferenceIdeal_pre_labels_in_range := by
  intro m g m' g' hpre hargs
  have hL (c : Dev Cert.KernelIdeal.nD) : Labelled (a3 m c) := labelled _ _ _ _ _ (hpre c)
  refine ⟨fun c => Cert.ReferenceIdeal.Read.val_main_v264 (F := Ideal)
    (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2))
    (m ((c.tc : Thread Cert.KernelIdeal.nD Cert.KernelIdeal.τ).loc Cert.KernelIdeal.main_arg3))
    (m ((c.tc : Thread Cert.KernelIdeal.nD Cert.KernelIdeal.τ).loc Cert.KernelIdeal.main_arg4)), ?_, ?_⟩
  · refine (θ_run _ _ _).mono (fun r h c => ⟨(h c).1.trans (funext fun i => ?_), (h c).2⟩) (kernel_value m g)
    exact (kernel_loss m g c (hL c) _ (Ref.ranks_antitone _ _ _ _ (hL c)) i).trans (Ref.reference_loss _ _ _ _ _ (hL c) i).symm
  · refine (θ_run _ _ _).mono (fun r h c => ⟨(h c).1.trans ?_, (h c).2⟩) (Cert.ReferenceIdeal.Value.run m' g')
    obtain ⟨h0, h1, h2, h3, h4⟩ := hargs c
    refine (Cert.ReferenceIdeal.Read.val_main_v264_eq _).trans ?_
    exact congr (congr (congr (congrArg₂ (Cert.ReferenceIdeal.Read.val_main_v264 (F := Ideal)) h0 h1) h2) h3) h4

/-- The three programs end with their arguments unchanged, the named constant is the one the kernel writes, and for labels in
    range the kernel's loss is the reference's. -/
theorem claim : Cert.Claim :=
  ⟨Cert.Kernel.Gen.facts, Cert.KernelIdeal.Gen.facts, Cert.ReferenceIdeal.Gen.facts, labels_facts,
    fun m ρ _ => Cert.Kernel.Gen.frame m ρ, fun m ρ _ => Cert.KernelIdeal.Gen.frame m ρ, fun m ρ _ => Cert.KernelIdeal.Gen.frame m ρ,
    reference_frame, fun m ρ _ => reference_frame m ρ trivial,
    IdealRules.named_const.statement Cert.KernelIdeal.κ "tenth" .f32 0x3DCCCCCD#32 _ rfl, value⟩

end Cert.Proof

end
